-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12)) (m ((c.tc : Thread Cert.Kernel3Ideal.nD Cert.Kernel3Ideal.τ).loc Cert.Kernel3Ideal.main_arg13))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12)) (m ((c.tc : Thread Cert.Reference3Ideal.nD Cert.Reference3Ideal.τ).loc Cert.Reference3Ideal.main_arg13))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def preserves_Kernel_KernelIdeal : Prop :=
  IdealRules.named_const.Statement Cert.KernelIdeal.κ "scale" .f32 0x3E38AA3B#32 (((1 / 8) * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)) (v3 : (c : Dev Cert.Kernel2Ideal.nD) → Buf (Elt Ideal) ((c.tc : Thread Cert.Kernel2Ideal.nD Cert.Kernel2Ideal.τ).loc Cert.Kernel2Ideal.main_v0_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_v0_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v18) = v0 c
          ∧ r.2.mem ((c.tc : Thread Cert.Reference2Ideal.nD Cert.Reference2Ideal.τ).loc Cert.Reference2Ideal.main_v21) = v1 c
          ∧ r.2.mem ((c.tc : Thread Cert.Reference2Ideal.nD Cert.Reference2Ideal.τ).loc Cert.Reference2Ideal.main_v24) = v2 c
          ∧ r.2.mem ((c.tc : Thread Cert.Reference2Ideal.nD Cert.Reference2Ideal.τ).loc Cert.Reference2Ideal.main_v27) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)) →
    ∃ (v0 : (c : Dev Cert.Kernel3Ideal.nD) → Buf (Elt Ideal) ((c.tc : Thread Cert.Kernel3Ideal.nD Cert.Kernel3Ideal.τ).loc Cert.Kernel3Ideal.main_v18_0)) (v1 : (c : Dev Cert.Kernel3Ideal.nD) → Buf (Elt Ideal) ((c.tc : Thread Cert.Kernel3Ideal.nD Cert.Kernel3Ideal.τ).loc Cert.Kernel3Ideal.main_v18_1)) (v2 : (c : Dev Cert.Kernel3Ideal.nD) → Buf (Elt Ideal) ((c.tc : Thread Cert.Kernel3Ideal.nD Cert.Kernel3Ideal.τ).loc Cert.Kernel3Ideal.main_v18_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v18_0) = v0 c
          ∧ r.2.mem ((c.tc : Thread Cert.Kernel3Ideal.nD Cert.Kernel3Ideal.τ).loc Cert.Kernel3Ideal.main_v18_1) = v1 c
          ∧ r.2.mem ((c.tc : Thread Cert.Kernel3Ideal.nD Cert.Kernel3Ideal.τ).loc Cert.Kernel3Ideal.main_v18_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v66) = v0 c
          ∧ r.2.mem ((c.tc : Thread Cert.Reference3Ideal.nD Cert.Reference3Ideal.τ).loc Cert.Reference3Ideal.main_v86) = v1 c
          ∧ r.2.mem ((c.tc : Thread Cert.Reference3Ideal.nD Cert.Reference3Ideal.τ).loc Cert.Reference3Ideal.main_v88) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v21) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v9_0)) (v1 : (c : Dev Cert.Kernel5Ideal.nD) → Buf (Elt Ideal) ((c.tc : Thread Cert.Kernel5Ideal.nD Cert.Kernel5Ideal.τ).loc Cert.Kernel5Ideal.main_v9_1)) (v2 : (c : Dev Cert.Kernel5Ideal.nD) → Buf (Elt Ideal) ((c.tc : Thread Cert.Kernel5Ideal.nD Cert.Kernel5Ideal.τ).loc Cert.Kernel5Ideal.main_v9_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v9_0) = v0 c
          ∧ r.2.mem ((c.tc : Thread Cert.Kernel5Ideal.nD Cert.Kernel5Ideal.τ).loc Cert.Kernel5Ideal.main_v9_1) = v1 c
          ∧ r.2.mem ((c.tc : Thread Cert.Kernel5Ideal.nD Cert.Kernel5Ideal.τ).loc Cert.Kernel5Ideal.main_v9_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_v25) = v1 c
          ∧ r.2.mem ((c.tc : Thread Cert.Reference5Ideal.nD Cert.Reference5Ideal.τ).loc Cert.Reference5Ideal.main_v27) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_finite3 : Cert.Pre_finite3.Facts) (hPre_finite5 : Cert.Pre_finite5.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
-- ==== Pre_finite.lean ====
abbrev S16x2048x3072 : Shape := ⟨3, ![16, 2048, 3072]⟩
abbrev S16x256x3072 : Shape := ⟨3, ![16, 256, 3072]⟩
abbrev S1x64 : Shape := ⟨2, ![1, 64]⟩
abbrev S1x128 : Shape := ⟨2, ![1, 128]⟩
abbrev S_ : Shape := ⟨0, ![]⟩

class Facts : Prop where
  bitsLt_bf16_f32 : FTy.bits .bf16 < FTy.bits .f32
  bcast_S_S16x2048x3072 : S_.BroadcastsInDim S16x2048x3072 (![] : Fin 0 → Fin S16x2048x3072.rank)
  reducesTo_S16x2048x3072_S_d0_1_2 : S16x2048x3072.ReducesTo [0, 1, 2] S_
  h_S_ : 0 < S_.numel
  bcast_S_S16x256x3072 : S_.BroadcastsInDim S16x256x3072 (![] : Fin 0 → Fin S16x256x3072.rank)
  reducesTo_S16x256x3072_S_d0_1_2 : S16x256x3072.ReducesTo [0, 1, 2] S_
  bcast_S_S1x64 : S_.BroadcastsInDim S1x64 (![] : Fin 0 → Fin S1x64.rank)
  reducesTo_S1x64_S_d0_1 : S1x64.ReducesTo [0, 1] S_

variable [Facts]

def fn_part1 {F : FTy → Type} [FloatOps F] (main_arg3 : FVec F S1x64 .f32) (main_arg4 : FVec F S1x64 .f32) (main_arg5 : FVec F S1x64 .f32) (main_v16 : IVec S_ 1) : IVec S_ 1 :=
  let main_v17 : FVec F S1x64 .f32 := Host.absf main_arg3
  let main_cst_5 : FVec F S_ .f32 := constant S_ .f32 0x7F800000#32
  let main_v18 : FVec F S1x64 .f32 := broadcastInDim S1x64 ![] bcast_S_S1x64 main_cst_5
  let main_v19 : IVec S1x64 1 := cmpf .olt main_v17 main_v18
  let main_c_6 : IVec S_ 1 := constantI S_ 1 1#1
  let main_v20 : IVec S_ 1 := (fun x v => Host.reduce IntOp.andi x v reducesTo_S1x64_S_d0_1 h_S_) main_v19 main_c_6
  let main_v21 : IVec S_ 1 := andi main_v16 main_v20
  let main_v22 : FVec F S1x64 .f32 := Host.absf main_arg4
  let main_cst_7 : FVec F S_ .f32 := constant S_ .f32 0x7F800000#32
  let main_v23 : FVec F S1x64 .f32 := broadcastInDim S1x64 ![] bcast_S_S1x64 main_cst_7
  let main_v24 : IVec S1x64 1 := cmpf .olt main_v22 main_v23
  let main_c_8 : IVec S_ 1 := constantI S_ 1 1#1
  let main_v25 : IVec S_ 1 := (fun x v => Host.reduce IntOp.andi x v reducesTo_S1x64_S_d0_1 h_S_) main_v24 main_c_8
  let main_v26 : IVec S_ 1 := andi main_v21 main_v25
  let main_v27 : FVec F S1x64 .f32 := Host.absf main_arg5
  let main_cst_9 : FVec F S_ .f32 := constant S_ .f32 0x7F800000#32
  let main_v28 : FVec F S1x64 .f32 := broadcastInDim S1x64 ![] bcast_S_S1x64 main_cst_9
  let main_v29 : IVec S1x64 1 := cmpf .olt main_v27 main_v28
  let main_c_10 : IVec S_ 1 := constantI S_ 1 1#1
  let main_v30 : IVec S_ 1 := (fun x v => Host.reduce IntOp.andi x v reducesTo_S1x64_S_d0_1 h_S_) main_v29 main_c_10
  let main_v31 : IVec S_ 1 := andi main_v26 main_v30
  main_v31

def fn {F : FTy → Type} [FloatOps F] (main_arg0 : FVec F S16x2048x3072 .bf16) (main_arg1 : FVec F S16x256x3072 .bf16) (main_arg2 : FVec F S1x64 .f32) (main_arg3 : FVec F S1x64 .f32) (main_arg4 : FVec F S1x64 .f32) (main_arg5 : FVec F S1x64 .f32) (main_arg6 : FVec F S1x128 .f32) : IVec S_ 1 :=
  let main_v0 : FVec F S16x2048x3072 .f32 := (extf .f32 · bitsLt_bf16_f32) main_arg0
  let main_v1 : FVec F S16x2048x3072 .f32 := Host.absf main_v0
  let main_cst : FVec F S_ .f32 := constant S_ .f32 0x7F800000#32
  let main_v2 : FVec F S16x2048x3072 .f32 := broadcastInDim S16x2048x3072 ![] bcast_S_S16x2048x3072 main_cst
  let main_v3 : IVec S16x2048x3072 1 := cmpf .olt main_v1 main_v2
  let main_c : IVec S_ 1 := constantI S_ 1 1#1
  let main_v4 : IVec S_ 1 := (fun x v => Host.reduce IntOp.andi x v reducesTo_S16x2048x3072_S_d0_1_2 h_S_) main_v3 main_c
  let main_c_0 : IVec S_ 1 := constantI S_ 1 1#1
  let main_v5 : IVec S_ 1 := andi main_c_0 main_v4
  let main_v6 : FVec F S16x256x3072 .f32 := (extf .f32 · bitsLt_bf16_f32) main_arg1
  let main_v7 : FVec F S16x256x3072 .f32 := Host.absf main_v6
  let main_cst_1 : FVec F S_ .f32 := constant S_ .f32 0x7F800000#32
  let main_v8 : FVec F S16x256x3072 .f32 := broadcastInDim S16x256x3072 ![] bcast_S_S16x256x3072 main_cst_1
  let main_v9 : IVec S16x256x3072 1 := cmpf .olt main_v7 main_v8
  let main_c_2 : IVec S_ 1 := constantI S_ 1 1#1
  let main_v10 : IVec S_ 1 := (fun x v => Host.reduce IntOp.andi x v reducesTo_S16x256x3072_S_d0_1_2 h_S_) main_v9 main_c_2
  let main_v11 : IVec S_ 1 := andi main_v5 main_v10
  let main_v12 : FVec F S1x64 .f32 := Host.absf main_arg2
  let main_cst_3 : FVec F S_ .f32 := constant S_ .f32 0x7F800000#32
  let main_v13 : FVec F S1x64 .f32 := broadcastInDim S1x64 ![] bcast_S_S1x64 main_cst_3
  let main_v14 : IVec S1x64 1 := cmpf .olt main_v12 main_v13
  let main_c_4 : IVec S_ 1 := constantI S_ 1 1#1
  let main_v15 : IVec S_ 1 := (fun x v => Host.reduce IntOp.andi x v reducesTo_S1x64_S_d0_1 h_S_) main_v14 main_c_4
  let main_v16 : IVec S_ 1 := andi main_v11 main_v15
  fn_part1 (F := F) main_arg3 main_arg4 main_arg5 main_v16
-- ==== Pre_finite3.lean ====
abbrev S16x2048x1024 : Shape := ⟨3, ![16, 2048, 1024]⟩
abbrev S1024 : Shape := ⟨1, ![1024]⟩
abbrev S16x1x1024 : Shape := ⟨3, ![16, 1, 1024]⟩
abbrev S1x1024x4096 : Shape := ⟨3, ![1, 1024, 4096]⟩
abbrev S1x2048 : Shape := ⟨2, ![1, 2048]⟩
abbrev S1x8x128x128 : Shape := ⟨4, ![1, 8, 128, 128]⟩
abbrev S1x8x128 : Shape := ⟨3, ![1, 8, 128]⟩
abbrev S1x2048x1024 : Shape := ⟨3, ![1, 2048, 1024]⟩
abbrev S1024x16 : Shape := ⟨2, ![1024, 16]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S16x1x1024 : S_.BroadcastsInDim S16x1x1024 (![] : Fin 0 → Fin S16x1x1024.rank)
  reducesTo_S16x1x1024_S_d0_1_2 : S16x1x1024.ReducesTo [0, 1, 2] S_
  bcast_S_S1024x16 : S_.BroadcastsInDim S1024x16 (![] : Fin 0 → Fin S1024x16.rank)
  reducesTo_S1024x16_S_d0_1 : S1024x16.ReducesTo [0, 1] S_

variable [Facts]

def fn_part1 {F : FTy → Type} [FloatOps F] (main_v14 : IVec S_ 1) (main_v15 : FVec F S1024x16 .f32) (main_cst_5 : FVec F S_ .f32) : IVec S_ 1 :=
  let main_v16 : FVec F S1024x16 .f32 := broadcastInDim S1024x16 ![] bcast_S_S1024x16 main_cst_5
  let main_v17 : IVec S1024x16 1 := cmpf .olt main_v15 main_v16
  let main_c_6 : IVec S_ 1 := constantI S_ 1 1#1
  let main_v18 : IVec S_ 1 := (fun x v => Host.reduce IntOp.andi x v reducesTo_S1024x16_S_d0_1 h_S_) main_v17 main_c_6
  let main_v19 : IVec S_ 1 := andi main_v14 main_v18
  main_v19

def fn {F : FTy → Type} [FloatOps F] (main_arg0 : FVec F S16x2048x1024 .f32) (main_arg1 : FVec F S1024 .f32) (main_arg2 : FVec F S16x1x1024 .f32) (main_arg3 : FVec F S16x1x1024 .f32) (main_arg4 : FVec F S1x1024x4096 .f32) (main_arg5 : FVec F S1x2048 .f32) (main_arg6 : FVec F S1x8x128x128 .f32) (main_arg7 : FVec F S1x8x128 .f32) (main_arg8 : FVec F S1x2048x1024 .f32) (main_arg9 : FVec F S16x1x1024 .f32) (main_arg10 : FVec F S1024 .f32) (main_arg11 : FVec F S16x1x1024 .f32) (main_arg12 : FVec F S16x1x1024 .f32) (main_arg13 : FVec F S1024x16 .f32) : IVec S_ 1 :=
  let main_v0 : FVec F S1024 .f32 := Host.absf main_arg10
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_c_0 : IVec S_ 1 := constantI S_ 1 1#1
  let main_v4 : IVec S_ 1 := andi main_c_0 main_v3
  let main_v5 : FVec F S16x1x1024 .f32 := Host.absf main_arg11
  let main_cst_1 : FVec F S_ .f32 := constant S_ .f32 0x7F800000#32
  let main_v6 : FVec F S16x1x1024 .f32 := broadcastInDim S16x1x1024 ![] bcast_S_S16x1x1024 main_cst_1
  let main_v7 : IVec S16x1x1024 1 := cmpf .olt main_v5 main_v6
  let main_c_2 : IVec S_ 1 := constantI S_ 1 1#1
  let main_v8 : IVec S_ 1 := (fun x v => Host.reduce IntOp.andi x v reducesTo_S16x1x1024_S_d0_1_2 h_S_) main_v7 main_c_2
  let main_v9 : IVec S_ 1 := andi main_v4 main_v8
  let main_v10 : FVec F S16x1x1024 .f32 := Host.absf main_arg12
  let main_cst_3 : FVec F S_ .f32 := constant S_ .f32 0x7F800000#32
  let main_v11 : FVec F S16x1x1024 .f32 := broadcastInDim S16x1x1024 ![] bcast_S_S16x1x1024 main_cst_3
  let main_v12 : IVec S16x1x1024 1 := cmpf .olt main_v10 main_v11
  let main_c_4 : IVec S_ 1 := constantI S_ 1 1#1
  let main_v13 : IVec S_ 1 := (fun x v => Host.reduce IntOp.andi x v reducesTo_S16x1x1024_S_d0_1_2 h_S_) main_v12 main_c_4
  let main_v14 : IVec S_ 1 := andi main_v9 main_v13
  let main_v15 : FVec F S1024x16 .f32 := Host.absf main_arg13
  let main_cst_5 : FVec F S_ .f32 := constant S_ .f32 0x7F800000#32
  fn_part1 (F := F) main_v14 main_v15 main_cst_5
-- ==== Pre_finite5.lean ====
abbrev S16x2048x1024 : Shape := ⟨3, ![16, 2048, 1024]⟩
abbrev S1x1024x1024 : Shape := ⟨3, ![1, 1024, 1024]⟩
abbrev S16x1x1024 : Shape := ⟨3, ![16, 1, 1024]⟩
abbrev S1024 : Shape := ⟨1, ![1024]⟩
abbrev S1024x16 : Shape := ⟨2, ![1024, 16]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S16x1x1024 : S_.BroadcastsInDim S16x1x1024 (![] : Fin 0 → Fin S16x1x1024.rank)
  reducesTo_S16x1x1024_S_d0_1_2 : S16x1x1024.ReducesTo [0, 1, 2] S_
  bcast_S_S1024x16 : S_.BroadcastsInDim S1024x16 (![] : Fin 0 → Fin S1024x16.rank)
  reducesTo_S1024x16_S_d0_1 : S1024x16.ReducesTo [0, 1] S_

variable [Facts]

def fn_part1 {F : FTy → Type} [FloatOps F] (main_v14 : IVec S_ 1) (main_v15 : FVec F S1024x16 .f32) (main_cst_5 : FVec F S_ .f32) : IVec S_ 1 :=
  let main_v16 : FVec F S1024x16 .f32 := broadcastInDim S1024x16 ![] bcast_S_S1024x16 main_cst_5
  let main_v17 : IVec S1024x16 1 := cmpf .olt main_v15 main_v16
  let main_c_6 : IVec S_ 1 := constantI S_ 1 1#1
  let main_v18 : IVec S_ 1 := (fun x v => Host.reduce IntOp.andi x v reducesTo_S1024x16_S_d0_1 h_S_) main_v17 main_c_6
  let main_v19 : IVec S_ 1 := andi main_v14 main_v18
  main_v19

def fn {F : FTy → Type} [FloatOps F] (main_arg0 : FVec F S16x2048x1024 .bf16) (main_arg1 : FVec F S1x1024x1024 .f32) (main_arg2 : FVec F S16x2048x1024 .f32) (main_arg3 : FVec F S16x1x1024 .f32) (main_arg4 : FVec F S1024 .f32) (main_arg5 : FVec F S16x1x1024 .f32) (main_arg6 : FVec F S16x1x1024 .f32) (main_arg7 : FVec F S1024x16 .f32) : IVec S_ 1 :=
  let main_v0 : FVec F S1024 .f32 := Host.absf main_arg4
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_c_0 : IVec S_ 1 := constantI S_ 1 1#1
  let main_v4 : IVec S_ 1 := andi main_c_0 main_v3
  let main_v5 : FVec F S16x1x1024 .f32 := Host.absf main_arg5
  let main_cst_1 : FVec F S_ .f32 := constant S_ .f32 0x7F800000#32
  let main_v6 : FVec F S16x1x1024 .f32 := broadcastInDim S16x1x1024 ![] bcast_S_S16x1x1024 main_cst_1
  let main_v7 : IVec S16x1x1024 1 := cmpf .olt main_v5 main_v6
  let main_c_2 : IVec S_ 1 := constantI S_ 1 1#1
  let main_v8 : IVec S_ 1 := (fun x v => Host.reduce IntOp.andi x v reducesTo_S16x1x1024_S_d0_1_2 h_S_) main_v7 main_c_2
  let main_v9 : IVec S_ 1 := andi main_v4 main_v8
  let main_v10 : FVec F S16x1x1024 .f32 := Host.absf main_arg6
  let main_cst_3 : FVec F S_ .f32 := constant S_ .f32 0x7F800000#32
  let main_v11 : FVec F S16x1x1024 .f32 := broadcastInDim S16x1x1024 ![] bcast_S_S16x1x1024 main_cst_3
  let main_v12 : IVec S16x1x1024 1 := cmpf .olt main_v10 main_v11
  let main_c_4 : IVec S_ 1 := constantI S_ 1 1#1
  let main_v13 : IVec S_ 1 := (fun x v => Host.reduce IntOp.andi x v reducesTo_S16x1x1024_S_d0_1_2 h_S_) main_v12 main_c_4
  let main_v14 : IVec S_ 1 := andi main_v9 main_v13
  let main_v15 : FVec F S1024x16 .f32 := Host.absf main_arg7
  let main_cst_5 : FVec F S_ .f32 := constant S_ .f32 0x7F800000#32
  fn_part1 (F := F) main_v14 main_v15 main_cst_5
-- ==== Kernel.lean ====
abbrev S16x2048x3072 : Shape := ⟨3, ![16, 2048, 3072]⟩
abbrev S16x256x3072 : Shape := ⟨3, ![16, 256, 3072]⟩
abbrev S1x64 : Shape := ⟨2, ![1, 64]⟩
abbrev S1x128 : Shape := ⟨2, ![1, 128]⟩
abbrev S64 : Shape := ⟨1, ![64]⟩
abbrev S128 : Shape := ⟨1, ![128]⟩
abbrev S128x1 : Shape := ⟨2, ![128, 1]⟩
abbrev S16x2048x1024 : Shape := ⟨3, ![16, 2048, 1024]⟩
abbrev S1x2048x256 : Shape := ⟨3, ![1, 2048, 256]⟩
abbrev S1x256x256 : Shape := ⟨3, ![1, 256, 256]⟩
abbrev S2x2304x128 : Shape := ⟨3, ![2, 2304, 128]⟩
abbrev S2x144x2304 : Shape := ⟨3, ![2, 144, 2304]⟩
abbrev S2x2304x512 : Shape := ⟨3, ![2, 2304, 512]⟩
abbrev S1x256x128 : Shape := ⟨3, ![1, 256, 128]⟩
abbrev S256x128 : Shape := ⟨2, ![256, 128]⟩
abbrev S128x256 : Shape := ⟨2, ![128, 256]⟩
abbrev S1x128x256 : Shape := ⟨3, ![1, 128, 256]⟩
abbrev S1x2048x128 : Shape := ⟨3, ![1, 2048, 128]⟩
abbrev S2048x128 : Shape := ⟨2, ![2048, 128]⟩
abbrev S128x2048 : Shape := ⟨2, ![128, 2048]⟩
abbrev S1x128x2048 : Shape := ⟨3, ![1, 128, 2048]⟩
abbrev S16x2304 : Shape := ⟨2, ![16, 2304]⟩
abbrev S1x16x2304 : Shape := ⟨3, ![1, 16, 2304]⟩
abbrev S1x1x64 : Shape := ⟨3, ![1, 1, 64]⟩
abbrev S1 : Shape := ⟨1, ![1]⟩
abbrev S1x1x1 : Shape := ⟨3, ![1, 1, 1]⟩
abbrev S1x1 : Shape := ⟨2, ![1, 1]⟩
abbrev S512x128 : Shape := ⟨2, ![512, 128]⟩
abbrev S1x768x128 : Shape := ⟨3, ![1, 768, 128]⟩
abbrev S768x128 : Shape := ⟨2, ![768, 128]⟩
abbrev S768x512 : Shape := ⟨2, ![768, 512]⟩
abbrev S1x768x512 : Shape := ⟨3, ![1, 768, 512]⟩
abbrev S512 : Shape := ⟨1, ![512]⟩
abbrev S1x512 : Shape := ⟨2, ![1, 512]⟩
abbrev S1x144x2304 : Shape := ⟨3, ![1, 144, 2304]⟩
abbrev S144x2304 : Shape := ⟨2, ![144, 2304]⟩
abbrev S1x2304x512 : Shape := ⟨3, ![1, 2304, 512]⟩
abbrev S2304x512 : Shape := ⟨2, ![2304, 512]⟩
abbrev S144x512 : Shape := ⟨2, ![144, 512]⟩
abbrev S128x512 : Shape := ⟨2, ![128, 512]⟩
abbrev S256 : Shape := ⟨1, ![256]⟩
abbrev S1x256 : Shape := ⟨2, ![1, 256]⟩

abbrev nBuf : Space → Nat
  | .hbm => 18
  | .vmem => 21
  | .smem => 0
  | _ => 0

abbrev bufTy : (tb : Table) → Fin (tcTables nBuf tb) → BufTy
  | .hbm, ⟨0, _⟩ => ⟨S16x2048x3072, .bf16⟩
  | .hbm, ⟨1, _⟩ => ⟨S16x256x3072, .bf16⟩
  | .hbm, ⟨2, _⟩ => ⟨S1x64, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x128, .f32⟩
  | .hbm, ⟨7, _⟩ => ⟨S64, .f32⟩
  | .hbm, ⟨8, _⟩ => ⟨S1x64, .f32⟩
  | .hbm, ⟨9, _⟩ => ⟨S64, .f32⟩
  | .hbm, ⟨10, _⟩ => ⟨S1x64, .f32⟩
  | .hbm, ⟨11, _⟩ => ⟨S64, .f32⟩
  | .hbm, ⟨12, _⟩ => ⟨S1x64, .f32⟩
  | .hbm, ⟨13, _⟩ => ⟨S64, .f32⟩
  | .hbm, ⟨14, _⟩ => ⟨S1x64, .f32⟩
  | .hbm, ⟨15, _⟩ => ⟨S128, .f32⟩
  | .hbm, ⟨16, _⟩ => ⟨S128x1, .f32⟩
  | .hbm, ⟨17, _⟩ => ⟨S16x2048x1024, .bf16⟩
  | .local _ .vmem, ⟨0, _⟩ => ⟨S1x2048x256, .bf16⟩
  | .local _ .vmem, ⟨1, _⟩ => ⟨S1x2048x256, .bf16⟩
  | .local _ .vmem, ⟨2, _⟩ => ⟨S1x256x256, .bf16⟩
  | .local _ .vmem, ⟨3, _⟩ => ⟨S1x256x256, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x256x256, .bf16⟩
  | .local _ .vmem, ⟨7, _⟩ => ⟨S1x256x256, .bf16⟩
  | .local _ .vmem, ⟨8, _⟩ => ⟨S1x2048x256, .bf16⟩
  | .local _ .vmem, ⟨9, _⟩ => ⟨S1x2048x256, .bf16⟩
  | .local _ .vmem, ⟨10, _⟩ => ⟨S1x64, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S128x1, .f32⟩
  | .local _ .vmem, ⟨15, _⟩ => ⟨S1x2048x256, .bf16⟩
  | .local _ .vmem, ⟨16, _⟩ => ⟨S1x2048x256, .bf16⟩
  | .local _ .vmem, ⟨17, _⟩ => ⟨S2x2304x128, .bf16⟩
  | .local _ .vmem, ⟨18, _⟩ => ⟨S2x144x2304, .bf16⟩
  | .local _ .vmem, ⟨19, _⟩ => ⟨S2x2304x512, .f32⟩
  | .local _ .vmem, ⟨20, _⟩ => ⟨S2x2304x512, .bf16⟩
  | _, _ => ⟨S16x2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x2048x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "scale" => some (((1 / 8) * (Real.log 2)⁻¹ : ℝ) : EReal)
  | _ => none
-- ==== ReferenceIdeal.lean ====
abbrev S16x2048x3072 : Shape := ⟨3, ![16, 2048, 3072]⟩
abbrev S16x256x3072 : Shape := ⟨3, ![16, 256, 3072]⟩
abbrev S1x64 : Shape := ⟨2, ![1, 64]⟩
abbrev S1x128 : Shape := ⟨2, ![1, 128]⟩
abbrev S16x2048x2048 : Shape := ⟨3, ![16, 2048, 2048]⟩
abbrev S16x2048x2x8x2x2x32 : Shape := ⟨7, ![16, 2048, 2, 8, 2, 2, 32]⟩
abbrev S16x2048x1x8x2x2x32 : Shape := ⟨7, ![16, 2048, 1, 8, 2, 2, 32]⟩
abbrev S16x2048x8x2x2x32 : Shape := ⟨6, ![16, 2048, 8, 2, 2, 32]⟩
abbrev S16x2048x1024 : Shape := ⟨3, ![16, 2048, 1024]⟩
abbrev S16x2048x8x128 : Shape := ⟨4, ![16, 2048, 8, 128]⟩
abbrev S16x256x2048 : Shape := ⟨3, ![16, 256, 2048]⟩
abbrev S16x256x2x8x2x2x32 : Shape := ⟨7, ![16, 256, 2, 8, 2, 2, 32]⟩
abbrev S16x256x1x8x2x2x32 : Shape := ⟨7, ![16, 256, 1, 8, 2, 2, 32]⟩
abbrev S16x256x8x2x2x32 : Shape := ⟨6, ![16, 256, 8, 2, 2, 32]⟩
abbrev S16x256x1024 : Shape := ⟨3, ![16, 256, 1024]⟩
abbrev S16x256x8x128 : Shape := ⟨4, ![16, 256, 8, 128]⟩
abbrev S64 : Shape := ⟨1, ![64]⟩
abbrev S_ : Shape := ⟨0, ![]⟩
abbrev S16x2304x8x2x2x32 : Shape := ⟨6, ![16, 2304, 8, 2, 2, 32]⟩
abbrev S16x2304x8x128 : Shape := ⟨4, ![16, 2304, 8, 128]⟩
abbrev S16x8x2x2048x2304 : Shape := ⟨5, ![16, 8, 2, 2048, 2304]⟩
abbrev S16x8x2x2048 : Shape := ⟨4, ![16, 8, 2, 2048]⟩
abbrev S16x8x2x2048x1 : Shape := ⟨5, ![16, 8, 2, 2048, 1]⟩
abbrev S16x8x1x2048x2304 : Shape := ⟨5, ![16, 8, 1, 2048, 2304]⟩
abbrev S16x8x2048x2304 : Shape := ⟨4, ![16, 8, 2048, 2304]⟩
abbrev S16x8x128x2048 : Shape := ⟨4, ![16, 8, 128, 2048]⟩
abbrev S16x2048x8 : Shape := ⟨3, ![16, 2048, 8]⟩
abbrev S16x2048x8x1 : Shape := ⟨4, ![16, 2048, 8, 1]⟩
abbrev S128 : Shape := ⟨1, ![128]⟩
abbrev S1x1x1x128 : Shape := ⟨4, ![1, 1, 1, 128]⟩

abbrev nBuf : Space → Nat
  | .hbm => 91
  | .vmem => 0
  | .smem => 0
  | _ => 0

abbrev bufTy : (tb : Table) → Fin (tcTables nBuf tb) → BufTy
  | .hbm, ⟨0, _⟩ => ⟨S16x2048x3072, .bf16⟩
  | .hbm, ⟨1, _⟩ => ⟨S16x256x3072, .bf16⟩
  | .hbm, ⟨2, _⟩ => ⟨S1x64, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x128, .f32⟩
  | .hbm, ⟨7, _⟩ => ⟨S16x2048x3072, .f32⟩
  | .hbm, ⟨8, _⟩ => ⟨S16x2048x2048, .f32⟩
  | .hbm, ⟨9, _⟩ => ⟨S16x2048x2x8x2x2x32, .f32⟩
  | .hbm, ⟨10, _⟩ => ⟨S16x2048x1x8x2x2x32, .f32⟩
  | .hbm, ⟨11, _⟩ => ⟨S16x2048x8x2x2x32, .f32⟩
  | .hbm, ⟨12, _⟩ => ⟨S16x2048x1x8x2x2x32, .f32⟩
  | .hbm, ⟨13, _⟩ => ⟨S16x2048x8x2x2x32, .f32⟩
  | .hbm, ⟨14, _⟩ => ⟨S16x2048x1024, .f32⟩
  | .hbm, ⟨15, _⟩ => ⟨S16x2048x8x128, .f32⟩
  | .hbm, ⟨16, _⟩ => ⟨S16x256x3072, .f32⟩
  | .hbm, ⟨17, _⟩ => ⟨S16x256x2048, .f32⟩
  | .hbm, ⟨18, _⟩ => ⟨S16x256x2x8x2x2x32, .f32⟩
  | .hbm, ⟨19, _⟩ => ⟨S16x256x1x8x2x2x32, .f32⟩
  | .hbm, ⟨20, _⟩ => ⟨S16x256x8x2x2x32, .f32⟩
  | .hbm, ⟨21, _⟩ => ⟨S16x256x1x8x2x2x32, .f32⟩
  | .hbm, ⟨22, _⟩ => ⟨S16x256x8x2x2x32, .f32⟩
  | .hbm, ⟨23, _⟩ => ⟨S16x256x1024, .f32⟩
  | .hbm, ⟨24, _⟩ => ⟨S16x256x8x128, .f32⟩
  | .hbm, ⟨25, _⟩ => ⟨S64, .f32⟩
  | .hbm, ⟨26, _⟩ => ⟨S64, .f32⟩
  | .hbm, ⟨27, _⟩ => ⟨S64, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S64, .f32⟩
  | .hbm, ⟨32, _⟩ => ⟨S64, .f32⟩
  | .hbm, ⟨33, _⟩ => ⟨S64, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S16x2304x8x2x2x32, .f32⟩
  | .hbm, ⟨41, _⟩ => ⟨S16x2304x8x128, .f32⟩
  | .hbm, ⟨42, _⟩ => ⟨S16x8x2x2048x2304, .f32⟩
  | .hbm, ⟨43, _⟩ => ⟨S_, .f32⟩
  | .hbm, ⟨44, _⟩ => ⟨S16x8x2x2048x2304, .f32⟩
  | .hbm, ⟨45, _⟩ => ⟨S16x8x2x2048x2304, .f32⟩
  | .hbm, ⟨46, _⟩ => ⟨S_, .f32⟩
  | .hbm, ⟨47, _⟩ => ⟨S16x8x2x2048, .f32⟩
  | .hbm, ⟨48, _⟩ => ⟨S_, .f32⟩
  | .hbm, ⟨49, _⟩ => ⟨S16x8x2x2048, .f32⟩
  | .hbm, ⟨50, _⟩ => ⟨S16x8x2x2048, .f32⟩
  | .hbm, ⟨51, _⟩ => ⟨S16x8x2x2048x1, .f32⟩
  | .hbm, ⟨52, _⟩ => ⟨S16x8x2x2048x2304, .f32⟩
  | .hbm, ⟨53, _⟩ => ⟨S16x8x2x2048x2304, .f32⟩
  | .hbm, ⟨54, _⟩ => ⟨S16x8x2x2048x2304, .f32⟩
  | .hbm, ⟨55, _⟩ => ⟨S_, .f32⟩
  | .hbm, ⟨56, _⟩ => ⟨S16x8x2x2048, .f32⟩
  | .hbm, ⟨57, _⟩ => ⟨S16x8x2x2048x1, .f32⟩
  | .hbm, ⟨58, _⟩ => ⟨S16x8x2x2048x2304, .f32⟩
  | .hbm, ⟨59, _⟩ => ⟨S16x8x2x2048x2304, .f32⟩
  | .hbm, ⟨60, _⟩ => ⟨S16x8x1x2048x2304, .f32⟩
  | .hbm, ⟨61, _⟩ => ⟨S16x8x2048x2304, .f32⟩
  | .hbm, ⟨62, _⟩ => ⟨S16x8x1x2048x2304, .f32⟩
  | .hbm, ⟨63, _⟩ => ⟨S16x8x2048x2304, .f32⟩
  | .hbm, ⟨64, _⟩ => ⟨S16x8x2048x2304, .f32⟩
  | .hbm, ⟨65, _⟩ => ⟨S16x8x2048x2304, .f32⟩
  | .hbm, ⟨66, _⟩ => ⟨S16x8x2048x2304, .f32⟩
  | .hbm, ⟨67, _⟩ => ⟨S16x8x128x2048, .f32⟩
  | .hbm, ⟨68, _⟩ => ⟨S16x2048x8x128, .f32⟩
  | .hbm, ⟨69, _⟩ => ⟨S16x2048x8x128, .f32⟩
  | .hbm, ⟨70, _⟩ => ⟨S_, .f32⟩
  | .hbm, ⟨71, _⟩ => ⟨S16x2048x8, .f32⟩
  | .hbm, ⟨72, _⟩ => ⟨S16x2048x8x1, .f32⟩
  | .hbm, ⟨73, _⟩ => ⟨S_, .f32⟩
  | .hbm, ⟨74, _⟩ => ⟨S16x2048x8x1, .f32⟩
  | .hbm, ⟨75, _⟩ => ⟨S16x2048x8x1, .f32⟩
  | .hbm, ⟨76, _⟩ => ⟨S_, .f32⟩
  | .hbm, ⟨77, _⟩ => ⟨S16x2048x8x1, .f32⟩
  | .hbm, ⟨78, _⟩ => ⟨S16x2048x8x1, .f32⟩
  | .hbm, ⟨79, _⟩ => ⟨S16x2048x8x1, .f32⟩
  | .hbm, ⟨80, _⟩ => ⟨S16x2048x8x128, .f32⟩
  | .hbm, ⟨81, _⟩ => ⟨S16x2048x8x128, .f32⟩
  | .hbm, ⟨82, _⟩ => ⟨S128, .f32⟩
  | .hbm, ⟨83, _⟩ => ⟨S1x1x1x128, .f32⟩
  | .hbm, ⟨84, _⟩ => ⟨S16x2048x8x128, .f32⟩
  | .hbm, ⟨85, _⟩ => ⟨S16x2048x8x128, .f32⟩
  | .hbm, ⟨86, _⟩ => ⟨S_, .f32⟩
  | .hbm, ⟨87, _⟩ => ⟨S16x2048x8x128, .f32⟩
  | .hbm, ⟨88, _⟩ => ⟨S16x2048x8x128, .f32⟩
  | .hbm, ⟨89, _⟩ => ⟨S16x2048x1024, .f32⟩
  | .hbm, ⟨90, _⟩ => ⟨S16x2048x1024, .bf16⟩
  | _, _ => ⟨S16x2048x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_0 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_1 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_2 : Ref sig .tc := ⟨.hbm, 43, rfl⟩
abbrev main_v33 : Ref sig .tc := ⟨.hbm, 44, rfl⟩
abbrev main_v34 : Ref sig .tc := ⟨.hbm, 45, rfl⟩
abbrev main_cst_3 : Ref sig .tc := ⟨.hbm, 46, rfl⟩
abbrev main_v35 : Ref sig .tc := ⟨.hbm, 47, rfl⟩
abbrev main_cst_4 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_5 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_cst_6 : Ref sig .tc := ⟨.hbm, 70, rfl⟩
abbrev main_v56 : Ref sig .tc := ⟨.hbm, 71, rfl⟩
abbrev main_v57 : Ref sig .tc := ⟨.hbm, 72, rfl⟩
abbrev main_cst_7 : Ref sig .tc := ⟨.hbm, 73, rfl⟩
abbrev main_v58 : Ref sig .tc := ⟨.hbm, 74, rfl⟩
abbrev main_v59 : Ref sig .tc := ⟨.hbm, 75, rfl⟩
abbrev main_cst_8 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_cst_9 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩

abbrev nD : Nat := 1
abbrev τ : Topo := Topo.v7x

variable {F : FTy → Type} [FloatOps F]
-- ==== Kernel2.lean ====
abbrev S16x16x256x1024 : Shape := ⟨4, ![16, 16, 256, 1024]⟩
abbrev S16x16x256x128 : Shape := ⟨4, ![16, 16, 256, 128]⟩
abbrev S4x16x1024x1024 : Shape := ⟨4, ![4, 16, 1024, 1024]⟩
abbrev S16x1024x1024 : Shape := ⟨3, ![16, 1024, 1024]⟩
abbrev S4x1x256x1024 : Shape := ⟨4, ![4, 1, 256, 1024]⟩
abbrev S4x1x256x128 : Shape := ⟨4, ![4, 1, 256, 128]⟩
abbrev S1x1x1024x1024 : Shape := ⟨4, ![1, 1, 1024, 1024]⟩
abbrev S1x1024x1024 : Shape := ⟨3, ![1, 1024, 1024]⟩
abbrev S1024x1024 : Shape := ⟨2, ![1024, 1024]⟩
abbrev S1024x128 : Shape := ⟨2, ![1024, 128]⟩
abbrev S1024x1 : Shape := ⟨2, ![1024, 1]⟩

abbrev nBuf : Space → Nat
  | .hbm => 9
  | .vmem => 18
  | .smem => 0
  | _ => 0

abbrev bufTy : (tb : Table) → Fin (tcTables nBuf tb) → BufTy
  | .hbm, ⟨0, _⟩ => ⟨S16x16x256x1024, .bf16⟩
  | .hbm, ⟨1, _⟩ => ⟨S16x16x256x128, .f32⟩
  | .hbm, ⟨2, _⟩ => ⟨S4x16x1024x1024, .f32⟩
  | .hbm, ⟨3, _⟩ => ⟨S4x16x1024x1024, .f32⟩
  | .hbm, ⟨4, _⟩ => ⟨S4x16x1024x1024, .f32⟩
  | .hbm, ⟨5, _⟩ => ⟨S16x16x256x1024, .bf16⟩
  | .hbm, ⟨6, _⟩ => ⟨S16x1024x1024, .bf16⟩
  | .hbm, ⟨7, _⟩ => ⟨S16x1024x1024, .bf16⟩
  | .hbm, ⟨8, _⟩ => ⟨S16x1024x1024, .bf16⟩
  | .local _ .vmem, ⟨0, _⟩ => ⟨S4x1x256x1024, .bf16⟩
  | .local _ .vmem, ⟨1, _⟩ => ⟨S4x1x256x1024, .bf16⟩
  | .local _ .vmem, ⟨2, _⟩ => ⟨S4x1x256x128, .f32⟩
  | .local _ .vmem, ⟨3, _⟩ => ⟨S4x1x256x128, .f32⟩
  | .local _ .vmem, ⟨4, _⟩ => ⟨S1x1x1024x1024, .f32⟩
  | .local _ .vmem, ⟨5, _⟩ => ⟨S1x1x1024x1024, .f32⟩
  | .local _ .vmem, ⟨6, _⟩ => ⟨S1x1x1024x1024, .f32⟩
  | .local _ .vmem, ⟨7, _⟩ => ⟨S1x1x1024x1024, .f32⟩
  | .local _ .vmem, ⟨8, _⟩ => ⟨S1x1x1024x1024, .f32⟩
  | .local _ .vmem, ⟨9, _⟩ => ⟨S1x1x1024x1024, .f32⟩
  | .local _ .vmem, ⟨10, _⟩ => ⟨S4x1x256x1024, .bf16⟩
  | .local _ .vmem, ⟨11, _⟩ => ⟨S4x1x256x1024, .bf16⟩
  | .local _ .vmem, ⟨12, _⟩ => ⟨S1x1024x1024, .bf16⟩
  | .local _ .vmem, ⟨13, _⟩ => ⟨S1x1024x1024, .bf16⟩
  | .local _ .vmem, ⟨14, _⟩ => ⟨S1x1024x1024, .bf16⟩
  | .local _ .vmem, ⟨15, _⟩ => ⟨S1x1024x1024, .bf16⟩
  | .local _ .vmem, ⟨16, _⟩ => ⟨S1x1024x1024, .bf16⟩
  | .local _ .vmem, ⟨17, _⟩ => ⟨S1x1024x1024, .bf16⟩
  | _, _ => ⟨S16x16x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![16, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S4x1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference2Ideal.lean ====
abbrev S16x16x256x1024 : Shape := ⟨4, ![16, 16, 256, 1024]⟩
abbrev S16x16x256x128 : Shape := ⟨4, ![16, 16, 256, 128]⟩
abbrev S4x16x1024x1024 : Shape := ⟨4, ![4, 16, 1024, 1024]⟩
abbrev S1x16x1024x1024 : Shape := ⟨4, ![1, 16, 1024, 1024]⟩
abbrev S16x1024x1024 : Shape := ⟨3, ![16, 1024, 1024]⟩
abbrev S16x1024x16x256 : Shape := ⟨4, ![16, 1024, 16, 256]⟩
abbrev S_ : Shape := ⟨0, ![]⟩
abbrev S16x16x256x1 : Shape := ⟨4, ![16, 16, 256, 1]⟩

abbrev nBuf : Space → Nat
  | .hbm => 41
  | .vmem => 0
  | .smem => 0
  | _ => 0

abbrev bufTy : (tb : Table) → Fin (tcTables nBuf tb) → BufTy
  | .hbm, ⟨0, _⟩ => ⟨S16x16x256x1024, .bf16⟩
  | .hbm, ⟨1, _⟩ => ⟨S16x16x256x128, .f32⟩
  | .hbm, ⟨2, _⟩ => ⟨S4x16x1024x1024, .f32⟩
  | .hbm, ⟨3, _⟩ => ⟨S4x16x1024x1024, .f32⟩
  | .hbm, ⟨4, _⟩ => ⟨S4x16x1024x1024, .f32⟩
  | .hbm, ⟨5, _⟩ => ⟨S16x16x256x1024, .f32⟩
  | .hbm, ⟨6, _⟩ => ⟨S1x16x1024x1024, .f32⟩
  | .hbm, ⟨7, _⟩ => ⟨S16x1024x1024, .f32⟩
  | .hbm, ⟨8, _⟩ => ⟨S16x1024x16x256, .f32⟩
  | .hbm, ⟨9, _⟩ => ⟨S16x16x256x1024, .f32⟩
  | .hbm, ⟨10, _⟩ => ⟨S1x16x1024x1024, .f32⟩
  | .hbm, ⟨11, _⟩ => ⟨S16x1024x1024, .f32⟩
  | .hbm, ⟨12, _⟩ => ⟨S16x1024x16x256, .f32⟩
  | .hbm, ⟨13, _⟩ => ⟨S16x16x256x1024, .f32⟩
  | .hbm, ⟨14, _⟩ => ⟨S16x16x256x1024, .f32⟩
  | .hbm, ⟨15, _⟩ => ⟨S16x16x256x1024, .f32⟩
  | .hbm, ⟨16, _⟩ => ⟨S_, .f32⟩
  | .hbm, ⟨17, _⟩ => ⟨S16x16x256x1024, .f32⟩
  | .hbm, ⟨18, _⟩ => ⟨S16x16x256x1024, .f32⟩
  | .hbm, ⟨19, _⟩ => ⟨S_, .f32⟩
  | .hbm, ⟨20, _⟩ => ⟨S16x16x256x1024, .f32⟩
  | .hbm, ⟨21, _⟩ => ⟨S16x16x256x1024, .f32⟩
  | .hbm, ⟨22, _⟩ => ⟨S16x16x256x1024, .f32⟩
  | .hbm, ⟨23, _⟩ => ⟨S16x16x256x1024, .f32⟩
  | .hbm, ⟨24, _⟩ => ⟨S1x16x1024x1024, .f32⟩
  | .hbm, ⟨25, _⟩ => ⟨S16x1024x1024, .f32⟩
  | .hbm, ⟨26, _⟩ => ⟨S16x1024x16x256, .f32⟩
  | .hbm, ⟨27, _⟩ => ⟨S16x16x256x1024, .f32⟩
  | .hbm, ⟨28, _⟩ => ⟨S16x16x256x1, .f32⟩
  | .hbm, ⟨29, _⟩ => ⟨S16x16x256x1024, .f32⟩
  | .hbm, ⟨30, _⟩ => ⟨S16x16x256x1024, .f32⟩
  | .hbm, ⟨31, _⟩ => ⟨S16x16x256x1024, .bf16⟩
  | .hbm, ⟨32, _⟩ => ⟨S1x16x1024x1024, .f32⟩
  | .hbm, ⟨33, _⟩ => ⟨S16x1024x1024, .f32⟩
  | .hbm, ⟨34, _⟩ => ⟨S16x1024x1024, .bf16⟩
  | .hbm, ⟨35, _⟩ => ⟨S1x16x1024x1024, .f32⟩
  | .hbm, ⟨36, _⟩ => ⟨S16x1024x1024, .f32⟩
  | .hbm, ⟨37, _⟩ => ⟨S16x1024x1024, .bf16⟩
  | .hbm, ⟨38, _⟩ => ⟨S1x16x1024x1024, .f32⟩
  | .hbm, ⟨39, _⟩ => ⟨S16x1024x1024, .f32⟩
  | .hbm, ⟨40, _⟩ => ⟨S16x1024x1024, .bf16⟩
  | _, _ => ⟨S16x16x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel3.lean ====
abbrev S16x2048x1024 : Shape := ⟨3, ![16, 2048, 1024]⟩
abbrev S1024 : Shape := ⟨1, ![1024]⟩
abbrev S16x1x1024 : Shape := ⟨3, ![16, 1, 1024]⟩
abbrev S1x1024x4096 : Shape := ⟨3, ![1, 1024, 4096]⟩
abbrev S1x2048 : Shape := ⟨2, ![1, 2048]⟩
abbrev S1x8x128x128 : Shape := ⟨4, ![1, 8, 128, 128]⟩
abbrev S1x8x128 : Shape := ⟨3, ![1, 8, 128]⟩
abbrev S1x2048x1024 : Shape := ⟨3, ![1, 2048, 1024]⟩
abbrev S1024x16 : Shape := ⟨2, ![1024, 16]⟩
abbrev S1x1024 : Shape := ⟨2, ![1, 1024]⟩
abbrev S1024x4096 : Shape := ⟨2, ![1024, 4096]⟩
abbrev S2048 : Shape := ⟨1, ![2048]⟩
abbrev S8x128x128 : Shape := ⟨3, ![8, 128, 128]⟩
abbrev S8x128 : Shape := ⟨2, ![8, 128]⟩
abbrev S128x8 : Shape := ⟨2, ![128, 8]⟩
abbrev S2048x1024 : Shape := ⟨2, ![2048, 1024]⟩
abbrev S_ : Shape := ⟨0, ![]⟩
abbrev S1024x128 : Shape := ⟨2, ![1024, 128]⟩
abbrev S1024x256 : Shape := ⟨2, ![1024, 256]⟩
abbrev S16x16x2048 : Shape := ⟨3, ![16, 16, 2048]⟩
abbrev S1x512x1024 : Shape := ⟨3, ![1, 512, 1024]⟩
abbrev S1x1x1024 : Shape := ⟨3, ![1, 1, 1024]⟩
abbrev S1x16x512 : Shape := ⟨3, ![1, 16, 512]⟩
abbrev S512x1024 : Shape := ⟨2, ![512, 1024]⟩
abbrev S512 : Shape := ⟨1, ![512]⟩
abbrev S512x1 : Shape := ⟨2, ![512, 1]⟩
abbrev S512x4096 : Shape := ⟨2, ![512, 4096]⟩
abbrev S512x2048 : Shape := ⟨2, ![512, 2048]⟩
abbrev S128x256 : Shape := ⟨2, ![128, 256]⟩
abbrev S1x128x128 : Shape := ⟨3, ![1, 128, 128]⟩
abbrev S128x128 : Shape := ⟨2, ![128, 128]⟩
abbrev S128x1 : Shape := ⟨2, ![128, 1]⟩
abbrev S128x2048 : Shape := ⟨2, ![128, 2048]⟩
abbrev S512x256 : Shape := ⟨2, ![512, 256]⟩
abbrev S512x128 : Shape := ⟨2, ![512, 128]⟩
abbrev S128x512 : Shape := ⟨2, ![128, 512]⟩
abbrev S16x512 : Shape := ⟨2, ![16, 512]⟩

abbrev nBuf : Space → Nat
  | .hbm => 37
  | .vmem => 26
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S16x1x1024, .f32⟩
  | .hbm, ⟨3, _⟩ => ⟨S16x1x1024, .f32⟩
  | .hbm, ⟨4, _⟩ => ⟨S1x1024x4096, .f32⟩
  | .hbm, ⟨5, _⟩ => ⟨S1x2048, .f32⟩
  | .hbm, ⟨6, _⟩ => ⟨S1x8x128x128, .f32⟩
  | .hbm, ⟨7, _⟩ => ⟨S1x8x128, .f32⟩
  | .hbm, ⟨8, _⟩ => ⟨S1x2048x1024, .f32⟩
  | .hbm, ⟨9, _⟩ => ⟨S16x1x1024, .f32⟩
  | .hbm, ⟨10, _⟩ => ⟨S1024, .f32⟩
  | .hbm, ⟨11, _⟩ => ⟨S16x1x1024, .f32⟩
  | .hbm, ⟨12, _⟩ => ⟨S16x1x1024, .f32⟩
  | .hbm, ⟨13, _⟩ => ⟨S1024x16, .f32⟩
  | .hbm, ⟨14, _⟩ => ⟨S1x1024, .f32⟩
  | .hbm, ⟨15, _⟩ => ⟨S1024x4096, .f32⟩
  | .hbm, ⟨16, _⟩ => ⟨S1024x4096, .bf16⟩
  | .hbm, ⟨17, _⟩ => ⟨S2048, .f32⟩
  | .hbm, ⟨18, _⟩ => ⟨S1x2048, .f32⟩
  | .hbm, ⟨19, _⟩ => ⟨S8x128x128, .f32⟩
  | .hbm, ⟨20, _⟩ => ⟨S8x128x128, .bf16⟩
  | .hbm, ⟨21, _⟩ => ⟨S8x128, .f32⟩
  | .hbm, ⟨22, _⟩ => ⟨S128x8, .f32⟩
  | .hbm, ⟨23, _⟩ => ⟨S2048x1024, .f32⟩
  | .hbm, ⟨24, _⟩ => ⟨S2048x1024, .bf16⟩
  | .hbm, ⟨25, _⟩ => ⟨S1x1024, .f32⟩
  | .hbm, ⟨26, _⟩ => ⟨S_, .i32⟩
  | .hbm, ⟨27, _⟩ => ⟨S_, .f32⟩
  | .hbm, ⟨28, _⟩ => ⟨S1024x128, .f32⟩
  | .hbm, ⟨29, _⟩ => ⟨S1024x128, .bf16⟩
  | .hbm, ⟨30, _⟩ => ⟨S1024x128, .f32⟩
  | .hbm, ⟨31, _⟩ => ⟨S1024x128, .f32⟩
  | .hbm, ⟨32, _⟩ => ⟨S1024x128, .bf16⟩
  | .hbm, ⟨33, _⟩ => ⟨S1024x256, .bf16⟩
  | .hbm, ⟨34, _⟩ => ⟨S16x2048x1024, .f32⟩
  | .hbm, ⟨35, _⟩ => ⟨S16x2048x1024, .bf16⟩
  | .hbm, ⟨36, _⟩ => ⟨S16x16x2048, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x4096, .bf16⟩
  | .local _ .vmem, ⟨8, _⟩ => ⟨S1x2048, .f32⟩
  | .local _ .vmem, ⟨9, _⟩ => ⟨S8x128x128, .bf16⟩
  | .local _ .vmem, ⟨10, _⟩ => ⟨S128x8, .f32⟩
  | .local _ .vmem, ⟨11, _⟩ => ⟨S2048x1024, .bf16⟩
  | .local _ .vmem, ⟨12, _⟩ => ⟨S1x1x1024, .f32⟩
  | .local _ .vmem, ⟨13, _⟩ => ⟨S1x1x1024, .f32⟩
  | .local _ .vmem, ⟨14, _⟩ => ⟨S1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x1x1024, .f32⟩
  | .local _ .vmem, ⟨19, _⟩ => ⟨S1024x256, .bf16⟩
  | .local _ .vmem, ⟨20, _⟩ => ⟨S1x512x1024, .f32⟩
  | .local _ .vmem, ⟨21, _⟩ => ⟨S1x512x1024, .f32⟩
  | .local _ .vmem, ⟨22, _⟩ => ⟨S1x512x1024, .bf16⟩
  | .local _ .vmem, ⟨23, _⟩ => ⟨S1x512x1024, .bf16⟩
  | .local _ .vmem, ⟨24, _⟩ => ⟨S1x16x512, .f32⟩
  | .local _ .vmem, ⟨25, _⟩ => ⟨S1x16x512, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_call0_v0 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18_0 : Ref sig .tc := ⟨.hbm, 34, rfl⟩
abbrev main_v18_1 : Ref sig .tc := ⟨.hbm, 35, rfl⟩
abbrev main_v18_2 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2048x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 1 → Memref sig .tc .vmem S1024x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x16x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== Reference3Ideal.lean ====
abbrev S16x2048x1024 : Shape := ⟨3, ![16, 2048, 1024]⟩
abbrev S1024 : Shape := ⟨1, ![1024]⟩
abbrev S16x1x1024 : Shape := ⟨3, ![16, 1, 1024]⟩
abbrev S1x1024x4096 : Shape := ⟨3, ![1, 1024, 4096]⟩
abbrev S1x2048 : Shape := ⟨2, ![1, 2048]⟩
abbrev S1x8x128x128 : Shape := ⟨4, ![1, 8, 128, 128]⟩
abbrev S1x8x128 : Shape := ⟨3, ![1, 8, 128]⟩
abbrev S1x2048x1024 : Shape := ⟨3, ![1, 2048, 1024]⟩
abbrev S1024x16 : Shape := ⟨2, ![1024, 16]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1024x4096 : Shape := ⟨2, ![1024, 4096]⟩
abbrev S16x2048x4096 : Shape := ⟨3, ![16, 2048, 4096]⟩
abbrev S16x2048x2048 : Shape := ⟨3, ![16, 2048, 2048]⟩
abbrev S2048 : Shape := ⟨1, ![2048]⟩
abbrev S1x1x2048 : Shape := ⟨3, ![1, 1, 2048]⟩
abbrev S16x16x128x8x256 : Shape := ⟨5, ![16, 16, 128, 8, 256]⟩
abbrev S8x128x128 : Shape := ⟨3, ![8, 128, 128]⟩
abbrev S8x16x16x256x128 : Shape := ⟨5, ![8, 16, 16, 256, 128]⟩
abbrev S8x128 : Shape := ⟨2, ![8, 128]⟩
abbrev S128x8 : Shape := ⟨2, ![128, 8]⟩
abbrev S128x8x1 : Shape := ⟨3, ![128, 8, 1]⟩
abbrev S1x1x128x8x1 : Shape := ⟨5, ![1, 1, 128, 8, 1]⟩
abbrev S2048x1024 : Shape := ⟨2, ![2048, 1024]⟩
abbrev S16x2048x16 : Shape := ⟨3, ![16, 2048, 16]⟩
abbrev S16x16x2048 : Shape := ⟨3, ![16, 16, 2048]⟩

abbrev nBuf : Space → Nat
  | .hbm => 118
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S16x1x1024, .f32⟩
  | .hbm, ⟨3, _⟩ => ⟨S16x1x1024, .f32⟩
  | .hbm, ⟨4, _⟩ => ⟨S1x1024x4096, .f32⟩
  | .hbm, ⟨5, _⟩ => ⟨S1x2048, .f32⟩
  | .hbm, ⟨6, _⟩ => ⟨S1x8x128x128, .f32⟩
  | .hbm, ⟨7, _⟩ => ⟨S1x8x128, .f32⟩
  | .hbm, ⟨8, _⟩ => ⟨S1x2048x1024, .f32⟩
  | .hbm, ⟨9, _⟩ => ⟨S16x1x1024, .f32⟩
  | .hbm, ⟨10, _⟩ => ⟨S1024, .f32⟩
  | .hbm, ⟨11, _⟩ => ⟨S16x1x1024, .f32⟩
  | .hbm, ⟨12, _⟩ => ⟨S16x1x1024, .f32⟩
  | .hbm, ⟨13, _⟩ => ⟨S1024x16, .f32⟩
  | .hbm, ⟨14, _⟩ => ⟨S16x2048x1024, .f32⟩
  | .hbm, ⟨15, _⟩ => ⟨S_, .f32⟩
  | .hbm, ⟨16, _⟩ => ⟨S16x2048, .f32⟩
  | .hbm, ⟨17, _⟩ => ⟨S16x2048x1, .f32⟩
  | .hbm, ⟨18, _⟩ => ⟨S_, .f32⟩
  | .hbm, ⟨19, _⟩ => ⟨S16x2048x1, .f32⟩
  | .hbm, ⟨20, _⟩ => ⟨S16x2048x1, .f32⟩
  | .hbm, ⟨21, _⟩ => ⟨S_, .f32⟩
  | .hbm, ⟨22, _⟩ => ⟨S16x2048x1, .f32⟩
  | .hbm, ⟨23, _⟩ => ⟨S16x2048x1, .f32⟩
  | .hbm, ⟨24, _⟩ => ⟨S16x2048x1, .f32⟩
  | .hbm, ⟨25, _⟩ => ⟨S16x2048x1024, .f32⟩
  | .hbm, ⟨26, _⟩ => ⟨S16x2048x1024, .f32⟩
  | .hbm, ⟨27, _⟩ => ⟨S1x1x1024, .f32⟩
  | .hbm, ⟨28, _⟩ => ⟨S16x2048x1024, .f32⟩
  | .hbm, ⟨29, _⟩ => ⟨S16x2048x1024, .f32⟩
  | .hbm, ⟨30, _⟩ => ⟨S_, .f32⟩
  | .hbm, ⟨31, _⟩ => ⟨S16x1x1024, .f32⟩
  | .hbm, ⟨32, _⟩ => ⟨S16x1x1024, .f32⟩
  | .hbm, ⟨33, _⟩ => ⟨S16x2048x1024, .f32⟩
  | .hbm, ⟨34, _⟩ => ⟨S16x2048x1024, .f32⟩
  | .hbm, ⟨35, _⟩ => ⟨S16x2048x1024, .f32⟩
  | .hbm, ⟨36, _⟩ => ⟨S16x2048x1024, .f32⟩
  | .hbm, ⟨37, _⟩ => ⟨S1024x4096, .f32⟩
  | .hbm, ⟨38, _⟩ => ⟨S16x2048x4096, .f32⟩
  | .hbm, ⟨39, _⟩ => ⟨S16x2048x4096, .f32⟩
  | .hbm, ⟨40, _⟩ => ⟨S16x2048x4096, .f32⟩
  | .hbm, ⟨41, _⟩ => ⟨S_, .f32⟩
  | .hbm, ⟨42, _⟩ => ⟨S16x2048x4096, .f32⟩
  | .hbm, ⟨43, _⟩ => ⟨S16x2048x4096, .f32⟩
  | .hbm, ⟨44, _⟩ => ⟨S16x2048x4096, .f32⟩
  | .hbm, ⟨45, _⟩ => ⟨S_, .f32⟩
  | .hbm, ⟨46, _⟩ => ⟨S16x2048x4096, .f32⟩
  | .hbm, ⟨47, _⟩ => ⟨S16x2048x4096, .f32⟩
  | .hbm, ⟨48, _⟩ => ⟨S16x2048x4096, .f32⟩
  | .hbm, ⟨49, _⟩ => ⟨S_, .f32⟩
  | .hbm, ⟨50, _⟩ => ⟨S16x2048x4096, .f32⟩
  | .hbm, ⟨51, _⟩ => ⟨S16x2048x4096, .f32⟩
  | .hbm, ⟨52, _⟩ => ⟨S_, .f32⟩
  | .hbm, ⟨53, _⟩ => ⟨S16x2048x4096, .f32⟩
  | .hbm, ⟨54, _⟩ => ⟨S16x2048x4096, .f32⟩
  | .hbm, ⟨55, _⟩ => ⟨S16x2048x4096, .f32⟩
  | .hbm, ⟨56, _⟩ => ⟨S16x2048x2048, .f32⟩
  | .hbm, ⟨57, _⟩ => ⟨S16x2048x2048, .f32⟩
  | .hbm, ⟨58, _⟩ => ⟨S2048, .f32⟩
  | .hbm, ⟨59, _⟩ => ⟨S16x2048x2048, .f32⟩
  | .hbm, ⟨60, _⟩ => ⟨S_, .f32⟩
  | .hbm, ⟨61, _⟩ => ⟨S16x2048, .f32⟩
  | .hbm, ⟨62, _⟩ => ⟨S16x2048x1, .f32⟩
  | .hbm, ⟨63, _⟩ => ⟨S_, .f32⟩
  | .hbm, ⟨64, _⟩ => ⟨S16x2048x1, .f32⟩
  | .hbm, ⟨65, _⟩ => ⟨S16x2048x1, .f32⟩
  | .hbm, ⟨66, _⟩ => ⟨S_, .f32⟩
  | .hbm, ⟨67, _⟩ => ⟨S16x2048x1, .f32⟩
  | .hbm, ⟨68, _⟩ => ⟨S16x2048x1, .f32⟩
  | .hbm, ⟨69, _⟩ => ⟨S16x2048x1, .f32⟩
  | .hbm, ⟨70, _⟩ => ⟨S16x2048x2048, .f32⟩
  | .hbm, ⟨71, _⟩ => ⟨S16x2048x2048, .f32⟩
  | .hbm, ⟨72, _⟩ => ⟨S1x1x2048, .f32⟩
  | .hbm, ⟨73, _⟩ => ⟨S16x2048x2048, .f32⟩
  | .hbm, ⟨74, _⟩ => ⟨S16x2048x2048, .f32⟩
  | .hbm, ⟨75, _⟩ => ⟨S16x16x128x8x256, .f32⟩
  | .hbm, ⟨76, _⟩ => ⟨S8x128x128, .f32⟩
  | .hbm, ⟨77, _⟩ => ⟨S8x16x16x256x128, .f32⟩
  | .hbm, ⟨78, _⟩ => ⟨S16x16x128x8x256, .f32⟩
  | .hbm, ⟨79, _⟩ => ⟨S8x128, .f32⟩
  | .hbm, ⟨80, _⟩ => ⟨S128x8, .f32⟩
  | .hbm, ⟨81, _⟩ => ⟨S128x8x1, .f32⟩
  | .hbm, ⟨82, _⟩ => ⟨S1x1x128x8x1, .f32⟩
  | .hbm, ⟨83, _⟩ => ⟨S16x16x128x8x256, .f32⟩
  | .hbm, ⟨84, _⟩ => ⟨S16x16x128x8x256, .f32⟩
  | .hbm, ⟨85, _⟩ => ⟨S16x2048x2048, .f32⟩
  | .hbm, ⟨86, _⟩ => ⟨S16x2048x2048, .f32⟩
  | .hbm, ⟨87, _⟩ => ⟨S2048x1024, .f32⟩
  | .hbm, ⟨88, _⟩ => ⟨S16x2048x1024, .f32⟩
  | .hbm, ⟨89, _⟩ => ⟨S16x2048x1024, .f32⟩
  | .hbm, ⟨90, _⟩ => ⟨S16x2048x1024, .f32⟩
  | .hbm, ⟨91, _⟩ => ⟨S16x2048x1024, .f32⟩
  | .hbm, ⟨92, _⟩ => ⟨S16x2048x1024, .f32⟩
  | .hbm, ⟨93, _⟩ => ⟨S_, .f32⟩
  | .hbm, ⟨94, _⟩ => ⟨S16x2048, .f32⟩
  | .hbm, ⟨95, _⟩ => ⟨S16x2048x1, .f32⟩
  | .hbm, ⟨96, _⟩ => ⟨S_, .f32⟩
  | .hbm, ⟨97, _⟩ => ⟨S16x2048x1, .f32⟩
  | .hbm, ⟨98, _⟩ => ⟨S16x2048x1, .f32⟩
  | .hbm, ⟨99, _⟩ => ⟨S_, .f32⟩
  | .hbm, ⟨100, _⟩ => ⟨S16x2048x1, .f32⟩
  | .hbm, ⟨101, _⟩ => ⟨S16x2048x1, .f32⟩
  | .hbm, ⟨102, _⟩ => ⟨S16x2048x1, .f32⟩
  | .hbm, ⟨103, _⟩ => ⟨S16x2048x1024, .f32⟩
  | .hbm, ⟨104, _⟩ => ⟨S16x2048x1024, .f32⟩
  | .hbm, ⟨105, _⟩ => ⟨S1x1x1024, .f32⟩
  | .hbm, ⟨106, _⟩ => ⟨S16x2048x1024, .f32⟩
  | .hbm, ⟨107, _⟩ => ⟨S16x2048x1024, .f32⟩
  | .hbm, ⟨108, _⟩ => ⟨S_, .f32⟩
  | .hbm, ⟨109, _⟩ => ⟨S16x1x1024, .f32⟩
  | .hbm, ⟨110, _⟩ => ⟨S16x1x1024, .f32⟩
  | .hbm, ⟨111, _⟩ => ⟨S16x2048x1024, .f32⟩
  | .hbm, ⟨112, _⟩ => ⟨S16x2048x1024, .f32⟩
  | .hbm, ⟨113, _⟩ => ⟨S16x2048x1024, .f32⟩
  | .hbm, ⟨114, _⟩ => ⟨S16x2048x1024, .f32⟩
  | .hbm, ⟨115, _⟩ => ⟨S16x2048x1024, .bf16⟩
  | .hbm, ⟨116, _⟩ => ⟨S16x2048x16, .f32⟩
  | .hbm, ⟨117, _⟩ => ⟨S16x16x2048, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_v4 : Ref sig .tc := ⟨.hbm, 20, rfl⟩
abbrev main_cst_1 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_4 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_5 : Ref sig .tc := ⟨.hbm, 49, rfl⟩
abbrev main_v29 : Ref sig .tc := ⟨.hbm, 50, rfl⟩
abbrev main_v30 : Ref sig .tc := ⟨.hbm, 51, rfl⟩
abbrev main_cst_6 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_7 : Ref sig .tc := ⟨.hbm, 60, rfl⟩
abbrev main_v38 : Ref sig .tc := ⟨.hbm, 61, rfl⟩
abbrev main_v39 : Ref sig .tc := ⟨.hbm, 62, rfl⟩
abbrev main_cst_8 : Ref sig .tc := ⟨.hbm, 63, rfl⟩
abbrev main_v40 : Ref sig .tc := ⟨.hbm, 64, rfl⟩
abbrev main_v41 : Ref sig .tc := ⟨.hbm, 65, rfl⟩
abbrev main_cst_9 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_10 : Ref sig .tc := ⟨.hbm, 93, rfl⟩
abbrev main_v68 : Ref sig .tc := ⟨.hbm, 94, rfl⟩
abbrev main_v69 : Ref sig .tc := ⟨.hbm, 95, rfl⟩
abbrev main_cst_11 : Ref sig .tc := ⟨.hbm, 96, rfl⟩
abbrev main_v70 : Ref sig .tc := ⟨.hbm, 97, rfl⟩
abbrev main_v71 : Ref sig .tc := ⟨.hbm, 98, rfl⟩
abbrev main_cst_12 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_cst_13 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩

abbrev nD : Nat := 1
abbrev τ : Topo := Topo.v7x

variable {F : FTy → Type} [FloatOps F]
-- ==== Kernel4.lean ====
abbrev S16x2048x1024 : Shape := ⟨3, ![16, 2048, 1024]⟩
abbrev S1024 : Shape := ⟨1, ![1024]⟩
abbrev S16x1x1024 : Shape := ⟨3, ![16, 1, 1024]⟩
abbrev S1x1024x3072 : Shape := ⟨3, ![1, 1024, 3072]⟩
abbrev S1024x3072 : Shape := ⟨2, ![1024, 3072]⟩
abbrev S1x1024 : Shape := ⟨2, ![1, 1024]⟩
abbrev S16x2048x3072 : Shape := ⟨3, ![16, 2048, 3072]⟩
abbrev S1x1024x1024 : Shape := ⟨3, ![1, 1024, 1024]⟩
abbrev S1x1x1024 : Shape := ⟨3, ![1, 1, 1024]⟩
abbrev S1024x1024 : Shape := ⟨2, ![1024, 1024]⟩
abbrev S1024x1 : Shape := ⟨2, ![1024, 1]⟩

abbrev nBuf : Space → Nat
  | .hbm => 9
  | .vmem => 10
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S16x1x1024, .f32⟩
  | .hbm, ⟨3, _⟩ => ⟨S16x1x1024, .f32⟩
  | .hbm, ⟨4, _⟩ => ⟨S1x1024x3072, .f32⟩
  | .hbm, ⟨5, _⟩ => ⟨S1024x3072, .f32⟩
  | .hbm, ⟨6, _⟩ => ⟨S1024x3072, .bf16⟩
  | .hbm, ⟨7, _⟩ => ⟨S1x1024, .f32⟩
  | .hbm, ⟨8, _⟩ => ⟨S16x2048x3072, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x3072, .bf16⟩
  | .local _ .vmem, ⟨8, _⟩ => ⟨S1x1024x3072, .bf16⟩
  | .local _ .vmem, ⟨9, _⟩ => ⟨S1x1024x3072, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S16x2048x1024 : Shape := ⟨3, ![16, 2048, 1024]⟩
abbrev S1024 : Shape := ⟨1, ![1024]⟩
abbrev S16x1x1024 : Shape := ⟨3, ![16, 1, 1024]⟩
abbrev S1x1024x3072 : Shape := ⟨3, ![1, 1024, 3072]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1024x3072 : Shape := ⟨2, ![1024, 3072]⟩
abbrev S16x2048x3072 : Shape := ⟨3, ![16, 2048, 3072]⟩

abbrev nBuf : Space → Nat
  | .hbm => 31
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S16x1x1024, .f32⟩
  | .hbm, ⟨3, _⟩ => ⟨S16x1x1024, .f32⟩
  | .hbm, ⟨4, _⟩ => ⟨S1x1024x3072, .f32⟩
  | .hbm, ⟨5, _⟩ => ⟨S16x2048x1024, .f32⟩
  | .hbm, ⟨6, _⟩ => ⟨S_, .f32⟩
  | .hbm, ⟨7, _⟩ => ⟨S16x2048, .f32⟩
  | .hbm, ⟨8, _⟩ => ⟨S16x2048x1, .f32⟩
  | .hbm, ⟨9, _⟩ => ⟨S_, .f32⟩
  | .hbm, ⟨10, _⟩ => ⟨S16x2048x1, .f32⟩
  | .hbm, ⟨11, _⟩ => ⟨S16x2048x1, .f32⟩
  | .hbm, ⟨12, _⟩ => ⟨S_, .f32⟩
  | .hbm, ⟨13, _⟩ => ⟨S16x2048x1, .f32⟩
  | .hbm, ⟨14, _⟩ => ⟨S16x2048x1, .f32⟩
  | .hbm, ⟨15, _⟩ => ⟨S16x2048x1, .f32⟩
  | .hbm, ⟨16, _⟩ => ⟨S16x2048x1024, .f32⟩
  | .hbm, ⟨17, _⟩ => ⟨S16x2048x1024, .f32⟩
  | .hbm, ⟨18, _⟩ => ⟨S1x1x1024, .f32⟩
  | .hbm, ⟨19, _⟩ => ⟨S16x2048x1024, .f32⟩
  | .hbm, ⟨20, _⟩ => ⟨S16x2048x1024, .f32⟩
  | .hbm, ⟨21, _⟩ => ⟨S_, .f32⟩
  | .hbm, ⟨22, _⟩ => ⟨S16x1x1024, .f32⟩
  | .hbm, ⟨23, _⟩ => ⟨S16x1x1024, .f32⟩
  | .hbm, ⟨24, _⟩ => ⟨S16x2048x1024, .f32⟩
  | .hbm, ⟨25, _⟩ => ⟨S16x2048x1024, .f32⟩
  | .hbm, ⟨26, _⟩ => ⟨S16x2048x1024, .f32⟩
  | .hbm, ⟨27, _⟩ => ⟨S16x2048x1024, .f32⟩
  | .hbm, ⟨28, _⟩ => ⟨S1024x3072, .f32⟩
  | .hbm, ⟨29, _⟩ => ⟨S16x2048x3072, .f32⟩
  | .hbm, ⟨30, _⟩ => ⟨S16x2048x3072, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Kernel5.lean ====
abbrev S16x2048x1024 : Shape := ⟨3, ![16, 2048, 1024]⟩
abbrev S1x1024x1024 : Shape := ⟨3, ![1, 1024, 1024]⟩
abbrev S16x1x1024 : Shape := ⟨3, ![16, 1, 1024]⟩
abbrev S1024 : Shape := ⟨1, ![1024]⟩
abbrev S1024x16 : Shape := ⟨2, ![1024, 16]⟩
abbrev S1024x1024 : Shape := ⟨2, ![1024, 1024]⟩
abbrev S1x1024 : Shape := ⟨2, ![1, 1024]⟩
abbrev S_ : Shape := ⟨0, ![]⟩
abbrev S1024x128 : Shape := ⟨2, ![1024, 128]⟩
abbrev S1024x256 : Shape := ⟨2, ![1024, 256]⟩
abbrev S16x16x2048 : Shape := ⟨3, ![16, 16, 2048]⟩
abbrev S1x1x1024 : Shape := ⟨3, ![1, 1, 1024]⟩
abbrev S1x16x1024 : Shape := ⟨3, ![1, 16, 1024]⟩
abbrev S1024x1 : Shape := ⟨2, ![1024, 1]⟩
abbrev S128x1024 : Shape := ⟨2, ![128, 1024]⟩
abbrev S16x1024 : Shape := ⟨2, ![16, 1024]⟩

abbrev nBuf : Space → Nat
  | .hbm => 22
  | .vmem => 19
  | .smem => 0
  | _ => 0

abbrev bufTy : (tb : Table) → Fin (tcTables nBuf tb) → BufTy
  | .hbm, ⟨0, _⟩ => ⟨S16x2048x1024, .bf16⟩
  | .hbm, ⟨1, _⟩ => ⟨S1x1024x1024, .f32⟩
  | .hbm, ⟨2, _⟩ => ⟨S16x2048x1024, .f32⟩
  | .hbm, ⟨3, _⟩ => ⟨S16x1x1024, .f32⟩
  | .hbm, ⟨4, _⟩ => ⟨S1024, .f32⟩
  | .hbm, ⟨5, _⟩ => ⟨S16x1x1024, .f32⟩
  | .hbm, ⟨6, _⟩ => ⟨S16x1x1024, .f32⟩
  | .hbm, ⟨7, _⟩ => ⟨S1024x16, .f32⟩
  | .hbm, ⟨8, _⟩ => ⟨S1024x1024, .f32⟩
  | .hbm, ⟨9, _⟩ => ⟨S1024x1024, .bf16⟩
  | .hbm, ⟨10, _⟩ => ⟨S1x1024, .f32⟩
  | .hbm, ⟨11, _⟩ => ⟨S_, .i32⟩
  | .hbm, ⟨12, _⟩ => ⟨S_, .f32⟩
  | .hbm, ⟨13, _⟩ => ⟨S1024x128, .f32⟩
  | .hbm, ⟨14, _⟩ => ⟨S1024x128, .bf16⟩
  | .hbm, ⟨15, _⟩ => ⟨S1024x128, .f32⟩
  | .hbm, ⟨16, _⟩ => ⟨S1024x128, .f32⟩
  | .hbm, ⟨17, _⟩ => ⟨S1024x128, .bf16⟩
  | .hbm, ⟨18, _⟩ => ⟨S1024x256, .bf16⟩
  | .hbm, ⟨19, _⟩ => ⟨S16x2048x1024, .f32⟩
  | .hbm, ⟨20, _⟩ => ⟨S16x2048x1024, .bf16⟩
  | .hbm, ⟨21, _⟩ => ⟨S16x16x2048, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1024x1024, .bf16⟩
  | .local _ .vmem, ⟨3, _⟩ => ⟨S1x1024x1024, .f32⟩
  | .local _ .vmem, ⟨4, _⟩ => ⟨S1x1024x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1024x256, .bf16⟩
  | .local _ .vmem, ⟨13, _⟩ => ⟨S1x1024x1024, .f32⟩
  | .local _ .vmem, ⟨14, _⟩ => ⟨S1x1024x1024, .f32⟩
  | .local _ .vmem, ⟨15, _⟩ => ⟨S1x1024x1024, .bf16⟩
  | .local _ .vmem, ⟨16, _⟩ => ⟨S1x1024x1024, .bf16⟩
  | .local _ .vmem, ⟨17, _⟩ => ⟨S1x16x1024, .f32⟩
  | .local _ .vmem, ⟨18, _⟩ => ⟨S1x16x1024, .f32⟩
  | _, _ => ⟨S16x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_call0_v0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9_0 : Ref sig .tc := ⟨.hbm, 19, rfl⟩
abbrev main_v9_1 : Ref sig .tc := ⟨.hbm, 20, rfl⟩
abbrev main_v9_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1024x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x16x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference5Ideal.lean ====
abbrev S16x2048x1024 : Shape := ⟨3, ![16, 2048, 1024]⟩
abbrev S1x1024x1024 : Shape := ⟨3, ![1, 1024, 1024]⟩
abbrev S16x1x1024 : Shape := ⟨3, ![16, 1, 1024]⟩
abbrev S1024 : Shape := ⟨1, ![1024]⟩
abbrev S1024x16 : Shape := ⟨2, ![1024, 16]⟩
abbrev S1024x1024 : Shape := ⟨2, ![1024, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x16 : Shape := ⟨3, ![16, 2048, 16]⟩
abbrev S16x16x2048 : Shape := ⟨3, ![16, 16, 2048]⟩

abbrev nBuf : Space → Nat
  | .hbm => 40
  | .vmem => 0
  | .smem => 0
  | _ => 0

abbrev bufTy : (tb : Table) → Fin (tcTables nBuf tb) → BufTy
  | .hbm, ⟨0, _⟩ => ⟨S16x2048x1024, .bf16⟩
  | .hbm, ⟨1, _⟩ => ⟨S1x1024x1024, .f32⟩
  | .hbm, ⟨2, _⟩ => ⟨S16x2048x1024, .f32⟩
  | .hbm, ⟨3, _⟩ => ⟨S16x1x1024, .f32⟩
  | .hbm, ⟨4, _⟩ => ⟨S1024, .f32⟩
  | .hbm, ⟨5, _⟩ => ⟨S16x1x1024, .f32⟩
  | .hbm, ⟨6, _⟩ => ⟨S16x1x1024, .f32⟩
  | .hbm, ⟨7, _⟩ => ⟨S1024x16, .f32⟩
  | .hbm, ⟨8, _⟩ => ⟨S16x2048x1024, .f32⟩
  | .hbm, ⟨9, _⟩ => ⟨S1024x1024, .f32⟩
  | .hbm, ⟨10, _⟩ => ⟨S16x2048x1024, .f32⟩
  | .hbm, ⟨11, _⟩ => ⟨S16x2048x1024, .f32⟩
  | .hbm, ⟨12, _⟩ => ⟨S16x2048x1024, .f32⟩
  | .hbm, ⟨13, _⟩ => ⟨S16x2048x1024, .f32⟩
  | .hbm, ⟨14, _⟩ => ⟨S16x2048x1024, .f32⟩
  | .hbm, ⟨15, _⟩ => ⟨S_, .f32⟩
  | .hbm, ⟨16, _⟩ => ⟨S16x2048, .f32⟩
  | .hbm, ⟨17, _⟩ => ⟨S16x2048x1, .f32⟩
  | .hbm, ⟨18, _⟩ => ⟨S_, .f32⟩
  | .hbm, ⟨19, _⟩ => ⟨S16x2048x1, .f32⟩
  | .hbm, ⟨20, _⟩ => ⟨S16x2048x1, .f32⟩
  | .hbm, ⟨21, _⟩ => ⟨S_, .f32⟩
  | .hbm, ⟨22, _⟩ => ⟨S16x2048x1, .f32⟩
  | .hbm, ⟨23, _⟩ => ⟨S16x2048x1, .f32⟩
  | .hbm, ⟨24, _⟩ => ⟨S16x2048x1, .f32⟩
  | .hbm, ⟨25, _⟩ => ⟨S16x2048x1024, .f32⟩
  | .hbm, ⟨26, _⟩ => ⟨S16x2048x1024, .f32⟩
  | .hbm, ⟨27, _⟩ => ⟨S1x1x1024, .f32⟩
  | .hbm, ⟨28, _⟩ => ⟨S16x2048x1024, .f32⟩
  | .hbm, ⟨29, _⟩ => ⟨S16x2048x1024, .f32⟩
  | .hbm, ⟨30, _⟩ => ⟨S_, .f32⟩
  | .hbm, ⟨31, _⟩ => ⟨S16x1x1024, .f32⟩
  | .hbm, ⟨32, _⟩ => ⟨S16x1x1024, .f32⟩
  | .hbm, ⟨33, _⟩ => ⟨S16x2048x1024, .f32⟩
  | .hbm, ⟨34, _⟩ => ⟨S16x2048x1024, .f32⟩
  | .hbm, ⟨35, _⟩ => ⟨S16x2048x1024, .f32⟩
  | .hbm, ⟨36, _⟩ => ⟨S16x2048x1024, .f32⟩
  | .hbm, ⟨37, _⟩ => ⟨S16x2048x1024, .bf16⟩
  | .hbm, ⟨38, _⟩ => ⟨S16x2048x16, .f32⟩
  | .hbm, ⟨39, _⟩ => ⟨S16x16x2048, .f32⟩
  | _, _ => ⟨S16x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩

abbrev nD : Nat := 1
abbrev τ : Topo := Topo.v7x

variable {F : FTy → Type} [FloatOps F]
-- ==== Proof.HostFrames.lean ====
/- The frames of the three references, and the one named constant of the attention kernel. -/
module

public import proofs.«01_k».proof.Defs
public import proofs.«01_k».proof.Proof.Gen.ReferenceIdeal.Run
public import proofs.«01_k».proof.Proof.Gen.Reference2Ideal.Run
public import proofs.«01_k».proof.Proof.Gen.Reference3Ideal.Run
public import Idealize.ShloMosaic.Lib.Claim

@[expose] public section

set_option maxRecDepth 16384

noncomputable section

namespace Cert.Proof

open Idealize.ShloMosaic Idealize.SL.Sem

/-- The attention's reference ends, its arguments unchanged and every counter at zero. -/
theorem frame_reference : Cert.quiescent_ReferenceIdeal := by
  intro m g _
  exact (θ_run Cert.ReferenceIdeal.defs _ _).mono (fun r h => ⟨fun c => (h c).2, sem_eq_zero_of_no_sems (by decide) r.2⟩)
    (Cert.ReferenceIdeal.Value.run (F := Ideal) m g)

/-- The experts' reference ends, its arguments unchanged and every counter at zero. -/
theorem frame_reference2 : Cert.quiescent_Reference2Ideal := by
  intro m g _
  exact (θ_run Cert.Reference2Ideal.defs _ _).mono (fun r h => ⟨fun c => (h c).2.2.2.2, sem_eq_zero_of_no_sems (by decide) r.2⟩)
    (Cert.Reference2Ideal.Value.run (F := Ideal) m g)

/-- The gated layer's reference ends, its arguments unchanged and every counter at zero. -/
theorem frame_reference3 : Cert.quiescent_Reference3Ideal := by
  intro m g _
  exact (θ_run Cert.Reference3Ideal.defs _ _).mono (fun r h => ⟨fun c => (h c).2.2.2, sem_eq_zero_of_no_sems (by decide) r.2⟩)
    (Cert.Reference3Ideal.Value.run (F := Ideal) m g)

/-- The attention's score scale reads as (1/8) / ln 2 at the ideal instance. -/
theorem preserves_scale : Cert.preserves_Kernel_KernelIdeal :=
  IdealRules.named_const.statement Cert.KernelIdeal.κ "scale" .f32 0x3E38AA3B#32 (((1 / 8) * (Real.log 2)⁻¹ : ℝ) : EReal) rfl

end Cert.Proof

end
-- ==== Proof.MoeBody.lean ====
/- The experts' call, its body: what one grid point leaves in the four output buffers, given what the five inputs hold, in the two cases of
   its conditional. The first of the four points of an expert rounds the expert's weights into the three weight outputs; the other three
   points find them there. -/
module

public import proofs.«01_k».proof.Proof.Gen.Kernel2Ideal.Frame
public import proofs.«01_k».proof.Proof.Gen.Kernel2Ideal.Skeleton
public import Idealize.ShloMosaic.Lib.Pipeline.ValueKit.Basic

@[expose] public section

set_option maxRecDepth 16384

noncomputable section

namespace Cert.Kernel2Ideal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (UR sig nD τ) ℕ

/-- What one store through the whole shape leaves is its payload. -/
theorem read_store_whole {sp : Space} {s : Shape} {e : EltTy} (v : View sig .tc sp s e) {off : Fin s.rank → ℕ}
    (inb : ∀ a, off a + s.size a ≤ s.size a) (f : v.ty.Contents (Elt F)) (w : s.Idx → Elt F e) (h : ∀ a, off a = 0) :
    v.read (Elt F) (v.writes (Elt F) f [(⟨Rect.unit off (no_index s.size) inb, w⟩ : View.Piece (Elt F) s e)]) = w := by
  obtain rfl : off = fun _ => 0 := funext h
  funext y
  have e : (Rect.unit (s := s) (fun _ => 0) s.size inb).emb y = y := by
    funext a; apply Fin.ext; simp [Rect.emb, Rect.unit]
  have := View.read_writes_cons_emb v f (Rect.unit (s := s) (fun _ => 0) s.size inb) w [] y
  rw [e] at this
  exact this

/-- A load of the whole of a memref reads its contents. -/
theorem read_whole {sp : Space} {s : Shape} {e : EltTy} {M : Memref sig .tc sp s e} (hM : M.IsWhole) {off : Fin s.rank → ℕ}
    (inb : ∀ a, off a + s.size a ≤ s.size a) (x : s.Idx → Elt F e) (h : ∀ a, off a = 0) :
    View.readAt (Elt F) M.view (Rect.unit off (no_index s.size) inb).toLoadRect (hM.unread x) = x := by
  rw [View.readAt_eq_ld, hM.read_unread, View.ld_unit_lit inb x h]

set_option maxHeartbeats 2000000 in
/-- The first point of an expert: the weights are rounded, then read back. -/
theorem run_first (c : Dev nD) (i : grid0.Coords) (arg2 : Memref sig .tc .vmem S4x1x256x1024 .bf16) (harg2 : arg2.IsWhole) (arg3 : Memref sig .tc .vmem S4x1x256x128 .f32) (harg3 : arg3.IsWhole) (arg4 : Memref sig .tc .vmem S1x1x1024x1024 .f32) (harg4 : arg4.IsWhole) (arg5 : Memref sig .tc .vmem S1x1x1024x1024 .f32) (harg5 : arg5.IsWhole) (arg6 : Memref sig .tc .vmem S1x1x1024x1024 .f32) (harg6 : arg6.IsWhole) (arg7 : Memref sig .tc .vmem S4x1x256x1024 .bf16) (harg7 : arg7.IsWhole) (arg8 : Memref sig .tc .vmem S1x1024x1024 .bf16) (harg8 : arg8.IsWhole) (arg9 : Memref sig .tc .vmem S1x1024x1024 .bf16) (harg9 : arg9.IsWhole) (arg10 : Memref sig .tc .vmem S1x1024x1024 .bf16) (harg10 : arg10.IsWhole) (hc0 : k0_cond1 i = 1#1)
    (x0 : Vec F S4x1x256x1024 .bf16) (x1 : Vec F S4x1x256x128 .f32) (x2 : Vec F S1x1x1024x1024 .f32) (x3 : Vec F S1x1x1024x1024 .f32) (x4 : Vec F S1x1x1024x1024 .f32)
    (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay4 x0 x1 (k0_pay1 x2) (k0_pay2 x3) (k0_pay3 x4)) ∗ owns (c : Thread nD τ) arg8 fullShare (k0_pay1 x2) ∗ owns (c : Thread nD τ) arg9 fullShare (k0_pay2 x3) ∗ owns (c : Thread nD τ) arg10 fullShare (k0_pay3 x4)) -∗ K ⟨⟩))
          ⊢ wp frame (wpE (defs₀ (F := F)) Variants.none c none) E (cc0_moe_ffn i arg2 harg2 arg3 harg3 arg4 harg4 arg5 harg5 arg6 harg6 arg7 harg7 arg8 harg8 arg9 harg9 arg10 harg10) K := by
  simp only [cc0_moe_ffn_eq_skeleton]; unfold cc0_moe_ffn_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, Hk⟩
  obtain rfl := harg2.eq_unread hf0; obtain rfl := harg3.eq_unread hf1; obtain rfl := harg4.eq_unread hf2; obtain rfl := harg5.eq_unread hf3; obtain rfl := harg6.eq_unread hf4
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    rw [read_store_whole _ _ _ _ (by decide), read_whole _ _ _ (by decide), read_whole _ _ _ (by decide)]
    unfold run_first.sl.v8 run_first.sl.v11 run_first.sl.v18 run_first.sl.H6_1 run_first.sl.H7_1 run_first.sl.H8_1
    rw [View.readCov_unit_lit _ _ _ (by decide), View.readCov_unit_lit _ _ _ (by decide), View.readCov_unit_lit _ _ _ (by decide),
      read_whole _ _ _ (by decide), read_whole _ _ _ (by decide), read_whole _ _ _ (by decide)]
  isplitl [H6]
  · iexists _; isplitr; swap; · iexact H6
    ipureintro
    unfold run_first.sl.H6_1
    rw [read_store_whole _ _ _ _ (by decide), read_whole _ _ _ (by decide)]
  isplitl [H7]
  · iexists _; isplitr; swap; · iexact H7
    ipureintro
    unfold run_first.sl.H7_1
    rw [read_store_whole _ _ _ _ (by decide), read_whole _ _ _ (by decide)]
  iexists _; isplitr; swap; · iexact H8
  ipureintro
  unfold run_first.sl.H8_1
  rw [read_store_whole _ _ _ _ (by decide), read_whole _ _ _ (by decide)]

set_option maxHeartbeats 2000000 in
/-- A later point of an expert: the rounded weights are found where the first point left them, and stay. -/
theorem run_rest (c : Dev nD) (i : grid0.Coords) (arg2 : Memref sig .tc .vmem S4x1x256x1024 .bf16) (harg2 : arg2.IsWhole) (arg3 : Memref sig .tc .vmem S4x1x256x128 .f32) (harg3 : arg3.IsWhole) (arg4 : Memref sig .tc .vmem S1x1x1024x1024 .f32) (harg4 : arg4.IsWhole) (arg5 : Memref sig .tc .vmem S1x1x1024x1024 .f32) (harg5 : arg5.IsWhole) (arg6 : Memref sig .tc .vmem S1x1x1024x1024 .f32) (harg6 : arg6.IsWhole) (arg7 : Memref sig .tc .vmem S4x1x256x1024 .bf16) (harg7 : arg7.IsWhole) (arg8 : Memref sig .tc .vmem S1x1024x1024 .bf16) (harg8 : arg8.IsWhole) (arg9 : Memref sig .tc .vmem S1x1024x1024 .bf16) (harg9 : arg9.IsWhole) (arg10 : Memref sig .tc .vmem S1x1024x1024 .bf16) (harg10 : arg10.IsWhole) (hc0 : ¬ k0_cond1 i = 1#1)
    (x0 : Vec F S4x1x256x1024 .bf16) (x1 : Vec F S4x1x256x128 .f32) (x2 : Vec F S1x1x1024x1024 .f32) (x3 : Vec F S1x1x1024x1024 .f32) (x4 : Vec F S1x1x1024x1024 .f32)
    (y6 y7 y8 : Vec F S1x1024x1024 .bf16)
    (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare y6 ∗ owns (c : Thread nD τ) arg9 fullShare y7 ∗ owns (c : Thread nD τ) arg10 fullShare y8
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay4 x0 x1 y6 y7 y8) ∗ owns (c : Thread nD τ) arg8 fullShare y6 ∗ owns (c : Thread nD τ) arg9 fullShare y7 ∗ owns (c : Thread nD τ) arg10 fullShare y8) -∗ K ⟨⟩))
          ⊢ wp frame (wpE (defs₀ (F := F)) Variants.none c none) E (cc0_moe_ffn i arg2 harg2 arg3 harg3 arg4 harg4 arg5 harg5 arg6 harg6 arg7 harg7 arg8 harg8 arg9 harg9 arg10 harg10) K := by
  simp only [cc0_moe_ffn_eq_skeleton]; unfold cc0_moe_ffn_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, Hk⟩
  obtain rfl := harg2.eq_unread hf0; obtain rfl := harg3.eq_unread hf1; obtain rfl := harg4.eq_unread hf2; obtain rfl := harg5.eq_unread hf3; obtain rfl := harg6.eq_unread hf4
  obtain rfl := harg8.eq_unread hf6; obtain rfl := harg9.eq_unread hf7; obtain rfl := harg10.eq_unread hf8
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    rw [read_store_whole _ _ _ _ (by decide), read_whole _ _ _ (by decide), read_whole _ _ _ (by decide),
      read_whole _ _ _ (by decide), read_whole _ _ _ (by decide), read_whole _ _ _ (by decide)]
  isplitl [H6]
  · iexists _; isplitr; · ipureintro; exact harg8.read_unread _
    iexact H6
  isplitl [H7]
  · iexists _; isplitr; · ipureintro; exact harg9.read_unread _
    iexact H7
  iexists _; isplitr; · ipureintro; exact harg10.read_unread _
  iexact H8

end Cert.Kernel2Ideal.Moe

end
-- ==== Proof.MoeFrame.lean ====
/- The experts' call, its launch: the proof data name what every output buffer holds after every grid point, the body keeps them, and so
   the call runs to an end in which every array is what the write-backs of those contents make it. -/
module

public import proofs.«01_k».proof.Proof.MoeBody
public import Idealize.ShloMosaic.Lib.Pipeline.TableIdle
public import Idealize.ShloMosaic.Lib.Claim

@[expose] public section

set_option maxRecDepth 16384

noncomputable section

namespace Cert.Kernel2Ideal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first of the four grid points of the expert that point `t` works for. -/
def first (t : Fin cfg0.N) : Fin cfg0.N := ⟨t.val - t.val % 4, lt_of_le_of_lt (Nat.sub_le _ _) t.isLt⟩

theorem first_of_start (t : Fin cfg0.N) (h : t.val % 4 = 0) : first t = t := Fin.ext (by simp [first, h])

/-- The point before one that is not the first belongs to the same expert. -/
theorem first_pred (t : Fin cfg0.N) (h : ¬ t.val % 4 = 0) : first ⟨t.val - 1, by omega⟩ = first t :=
  Fin.ext (by simp only [first]; omega)

/-- What the rounded weights are at point `t`: the gate's, -/
def gateW (c : Dev nD) (t : Fin cfg0.N) : Vec F S1x1024x1024 .bf16 := k0_pay1 (iblk m c 2 (first t))
/-- the other factor's, -/
def upW (c : Dev nD) (t : Fin cfg0.N) : Vec F S1x1024x1024 .bf16 := k0_pay2 (iblk m c 3 (first t))
/-- and the last product's. -/
def downW (c : Dev nD) (t : Fin cfg0.N) : Vec F S1x1024x1024 .bf16 := k0_pay3 (iblk m c 4 (first t))

/-- The proof data of the call on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay4 (iblk m c 0 t) (iblk m c 1 t) (gateW m c t) (upW m c t) (downW m c t)
    | ⟨6, _⟩ => gateW m c t
    | ⟨7, _⟩ => upW m c t
    | ⟨8, _⟩ => downW m c t
  Φ _ := Pipeline.ΦA spec0 c
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t =
    k0_pay4 (iblk m c 0 t) (iblk m c 1 t) (gateW m c t) (upW m c t) (downW m c t) := by dsimp only [dats]
theorem after_6 (c : Dev nD) (t : Fin cfg0.N) : (dats m 0 c).after 6 t = gateW m c t := by dsimp only [dats]
theorem after_7 (c : Dev nD) (t : Fin cfg0.N) : (dats m 0 c).after 7 t = upW m c t := by dsimp only [dats]
theorem after_8 (c : Dev nD) (t : Fin cfg0.N) : (dats m 0 c).after 8 t = downW m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- The body's condition holds at the first point of each expert. -/
theorem cond_iff (t : Fin cfg0.N) : k0_cond1 (grid0.coords t) = 1#1 ↔ t.val % 4 = 0 := by
  have ht : t.val < 64 := Nat.lt_of_lt_of_eq t.isLt N_0
  have e0 : (grid0.coords t 0).val = t.val / 4 % 16 := Pipeline.Grid.coords_val t 0 (by decide) rfl
  have e1 : (grid0.coords t 1).val = t.val / 1 % 4 := Pipeline.Grid.coords_val t 1 (by decide) rfl
  simp only [k0_cond1, e0, e1]
  word_cmp

/-- The windows of the rounded weights. -/
def IsW (w : Fin cfg0.W) : Prop := w = 6 ∨ w = 7 ∨ w = 8

theorem idle_eq {w : Fin cfg0.W} (hw : IsW w) (t : Fin cfg0.N) :
    cfg0.idle w (grid0.coords t) = !(k0_cond1 (grid0.coords t) == 1#1) := by
  rcases hw with rfl | rfl | rfl <;> rfl

theorem idle_first {w : Fin cfg0.W} (hw : IsW w) (t : Fin cfg0.N) (h : t.val % 4 = 0) : cfg0.idle w (grid0.coords t) = false := by
  rw [idle_eq hw, (cond_iff t).mpr h]; rfl

theorem idle_rest {w : Fin cfg0.W} (hw : IsW w) (t : Fin cfg0.N) (h : ¬ t.val % 4 = 0) : cfg0.idle w (grid0.coords t) = true := by
  rw [idle_eq hw]
  simp only [Bool.not_eq_true', beq_eq_false_iff_ne]
  exact fun e => h ((cond_iff t).mp e)

theorem flush_iff {w : Fin cfg0.W} (hw : IsW w) (t : Fin cfg0.N) : (cfg0.win w).flush t = true ↔ t.val % 4 = 3 := by
  rcases hw with rfl | rfl | rfl
  · exact flush0_6 t
  · exact flush0_7 t
  · exact flush0_8 t

theorem isOut_W {w : Fin cfg0.W} (hw : IsW w) : (cfg0.win w).isOut = true := by rcases hw with rfl | rfl | rfl <;> rfl

theorem clip_W {w : Fin cfg0.W} (hw : IsW w) (i : cfg0.grid.Coords) (a) : (cfg0.win w).clip i a = none := by
  rcases hw with rfl | rfl | rfl <;> rfl

theorem after_pred {w : Fin cfg0.W} (hw : IsW w) (c : Dev nD) (t : Fin cfg0.N) (h : ¬ t.val % 4 = 0) :
    (dats m 0 c).after w t = (dats m 0 c).after w ⟨t.val - 1, by omega⟩ := by
  rcases hw with rfl | rfl | rfl
  · rw [after_6, after_6, gateW, gateW, first_pred t h]
  · rw [after_7, after_7, upW, upW, first_pred t h]
  · rw [after_8, after_8, downW, downW, first_pred t h]

/-- A weight window is taken up anew at the first point of each expert and at no other. -/
theorem fresh_rest {w : Fin cfg0.W} (hw : IsW w) : ∀ (n : ℕ) (hn : n < cfg0.N), ¬ n % 4 = 0 → cfg0.fresh w n = false
  | 0, _, h => absurd rfl h
  | n + 1, hn, h => by
    have hn' : n < cfg0.N := by omega
    rw [Cfg.fresh_succ cfg0 w n hn']
    have hf : (cfg0.win w).flush ⟨n, hn'⟩ = false := by
      rw [← Bool.not_eq_true, flush_iff hw]; simp only; omega
    rw [hf, Bool.false_or]
    by_cases h0 : n % 4 = 0
    · have : cfg0.idle w (cfg0.grid.coords ⟨n, hn'⟩) = false := idle_first hw ⟨n, hn'⟩ h0
      rw [this, Bool.false_and]
    · rw [fresh_rest hw n hn' h0, Bool.and_false]

/-- At a later point of an expert the body finds the rounded weights of that expert. -/
theorem before_W {w : Fin cfg0.W} (hw : IsW w) (c : Dev nD) (t : Fin cfg0.N) (h : ¬ t.val % 4 = 0) (d) :
    (dats m 0 c).before w t d = (dats m 0 c).after w t := by
  rw [(dats m 0 c).before_out_traj w (isOut_W hw) (clip_W hw)
    (fun t' _ hi _ => after_pred m hw c t' (fun h0 => by
      have := idle_first hw t' h0
      exact Bool.false_ne_true (this.symm.trans hi))) t.val t rfl d,
    fresh_rest hw t.val t.isLt h, if_neg Bool.false_ne_true]
  exact (after_pred m hw c t h).symm

/-- What the body hands back of a weight window at any point, given that the buffer holds the rounded weights. -/
theorem leaves_W {w : Fin cfg0.W} (hw : IsW w) (c : Dev nD) (t : Fin cfg0.N) :
    owns (c : Thread nD τ) ((cfg0.win w).stage (cfg0.slots t w)) fullShare ((dats m 0 c).after w t) ⊢ ((dats m 0 c).leavesExact w t : sProp 𝕄) := by
  by_cases h : t.val % 4 = 0
  · unfold Dat.leavesExact
    rw [show cfg0.idle w (cfg0.grid.coords t) = false from idle_first hw t h]
  · cases hf : (cfg0.win w).flush t with
    | false =>
      rw [(dats m 0 c).leavesExact_idle w t (idle_rest hw t h) hf]
      iintro H
      iexists (fun _ => Classical.arbitrary _)
      rw [before_W m hw c t h]
      iexact H
    | true =>
      unfold Dat.leavesExact
      rw [show cfg0.idle w (cfg0.grid.coords t) = true from idle_rest hw t h, hf]

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it hands back. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t
    ∗ (dats m 0 c).leavesExact 6 t ∗ (dats m 0 c).leavesExact 7 t ∗ (dats m 0 c).leavesExact 8 t)

/-- A window that no point is idle for is handed back at what the proof data name. -/
theorem leaves_live {w : Fin cfg0.W} (h : ∀ i, cfg0.idle w i = false) (c : Dev nD) (t : Fin cfg0.N) :
    ((dats m 0 c).leavesExact w t : sProp 𝕄) = owns (c : Thread nD τ) ((cfg0.win w).stage (cfg0.slots t w)) fullShare ((dats m 0 c).after w t) := by
  unfold Dat.leavesExact; rw [h]

set_option maxHeartbeats 1600000 in
/-- The body at any point, from what the windows hold to what the proof data name. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    leaves_live m (w := 0) (fun _ => rfl) c t, leaves_live m (w := 1) (fun _ => rfl) c t, leaves_live m (w := 2) (fun _ => rfl) c t,
    leaves_live m (w := 3) (fun _ => rfl) c t, leaves_live m (w := 4) (fun _ => rfl) c t, leaves_live m (w := 5) (fun _ => rfl) c t,
    after_0, after_1, after_2, after_3, after_4, after_5]
  by_cases h0 : t.val % 4 = 0
  · iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run_first c (grid0.coords t) _ _ _ _ _ _ _ _ _ _ _ _ _ _ _ _ _ _ ((cond_iff t).mpr h0) (iblk m c 0 t) (iblk m c 1 t) (iblk m c 2 t) (iblk m c 3 t) (iblk m c 4 t) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    have e6 : (dats m 0 c).after 6 t = k0_pay1 (iblk m c 2 t) := by rw [after_6, gateW, first_of_start t h0]
    have e7 : (dats m 0 c).after 7 t = k0_pay2 (iblk m c 3 t) := by rw [after_7, upW, first_of_start t h0]
    have e8 : (dats m 0 c).after 8 t = k0_pay3 (iblk m c 4 t) := by rw [after_8, downW, first_of_start t h0]
    isplitl [H5]
    · rw [gateW, upW, downW, first_of_start t h0]; iexact H5
    isplitl [H6]; · iapply (leaves_W m (w := 6) (.inl rfl) c t); rw [e6]; iexact H6
    isplitl [H7]; · iapply (leaves_W m (w := 7) (.inr (.inl rfl)) c t); rw [e7]; iexact H7
    iapply (leaves_W m (w := 8) (.inr (.inr rfl)) c t); rw [e8]; iexact H8
  · simp only [before_W m (w := 6) (.inl rfl) c t h0, before_W m (w := 7) (.inr (.inl rfl)) c t h0, before_W m (w := 8) (.inr (.inr rfl)) c t h0,
      after_6, after_7, after_8]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run_rest c (grid0.coords t) _ _ _ _ _ _ _ _ _ _ _ _ _ _ _ _ _ _ (fun h => h0 ((cond_iff t).mp h)) (iblk m c 0 t) (iblk m c 1 t) (iblk m c 2 t) (iblk m c 3 t) (iblk m c 4 t) (gateW m c t) (upW m c t) (downW m c t) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [H8]; · iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iapply (leaves_W m (w := 6) (.inl rfl) c t); rw [after_6]; iexact H6
    isplitl [H7]; · iapply (leaves_W m (w := 7) (.inr (.inl rfl)) c t); rw [after_7]; iexact H7
    iapply (leaves_W m (w := 8) (.inr (.inr rfl)) c t); rw [after_8]; iexact H8

/-- The body table's row at point `t` is the body. -/
theorem defs₀_row (t : Fin cfg0.N) : defs₀ (F := F) .tc cfg0.body (cfg0.bodyArgs t (cfg0.slots t)) = bodyAt0 t := by
  unfold defs₀; rw [Defs.onTc_tc]

/-- The library's body obligation. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The call runs to an end in which every array is what the write-backs make it and every counter is zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end as they began, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.Kernel2Ideal.Moe

end
-- ==== Proof.MoeValue.lean ====
/- The experts' call, its values: every result array after the run is the reference's own term of the arguments. -/
module

public import proofs.«01_k».proof.Proof.MoeFrame
public import proofs.«01_k».proof.Proof.Gen.Reference2Ideal.Run
public import Idealize.ShloMosaic.Lib.Pipeline.ValueKit

@[expose] public section

set_option maxRecDepth 16384

noncomputable section

namespace Cert.Kernel2Ideal.Moe

open Idealize.ShloMosaic Idealize.ShloMosaic.TcCoe Idealize.SL.Sem
open Idealize.ShloMosaic.Pipeline (Dat)
open Cert.Kernel2Ideal Cert.Kernel2Ideal.Gen

variable (m : (ℓ : Loc nD τ sig) → Buf (Elt Ideal) ℓ)

/-- The reference's first result over its five arguments. -/
abbrev REF (X : FVec Ideal S16x16x256x1024 .bf16) (A : FVec Ideal S16x16x256x128 .f32) (G U D : FVec Ideal S4x16x1024x1024 .f32) :
    FVec Ideal S16x16x256x1024 .bf16 :=
  truncf .bf16 (mulf (transpose Cert.Reference2Ideal.S16x16x256x1024 [2, 0, 3, 1] (Host.dotGeneral Cert.Reference2Ideal.dot_S16x1024x1024_S16x16x256x1024_S16x1024x16x256_1_3_2_02_0_1 none (shapeCast Cert.Reference2Ideal.S16x1024x1024 (extractStridedSlice Cert.Reference2Ideal.S1x16x1024x1024 ![0, 0, 0, 0] D Cert.Reference2Ideal.Gen.slices_S4x16x1024x1024_S1x16x1024x1024_0_0_0_0) Cert.Reference2Ideal.Gen.shapeCasts_S1x16x1024x1024_S16x1024x1024) (mulf (mulf (transpose Cert.Reference2Ideal.S16x16x256x1024 [2, 0, 3, 1] (Host.dotGeneral Cert.Reference2Ideal.dot_S16x1024x1024_S16x16x256x1024_S16x1024x16x256_1_3_2_02_0_1 none (shapeCast Cert.Reference2Ideal.S16x1024x1024 (extractStridedSlice Cert.Reference2Ideal.S1x16x1024x1024 ![0, 0, 0, 0] G Cert.Reference2Ideal.Gen.slices_S4x16x1024x1024_S1x16x1024x1024_0_0_0_0) Cert.Reference2Ideal.Gen.shapeCasts_S1x16x1024x1024_S16x1024x1024) (extf .f32 X Cert.Reference2Ideal.Gen.bitsLt_bf16_f32)) Cert.Reference2Ideal.Gen.transposes_S16x1024x16x256_S16x16x256x1024_2_0_3_1) (Host.divf (broadcastInDim Cert.Reference2Ideal.S16x16x256x1024 ![] Cert.Reference2Ideal.Gen.bcast_S_S16x16x256x1024 (constant Cert.Reference2Ideal.S_ .f32 0x3F800000#32)) (addf (broadcastInDim Cert.Reference2Ideal.S16x16x256x1024 ![] Cert.Reference2Ideal.Gen.bcast_S_S16x16x256x1024 (constant Cert.Reference2Ideal.S_ .f32 0x3F800000#32)) (Host.exp (Host.negf (transpose Cert.Reference2Ideal.S16x16x256x1024 [2, 0, 3, 1] (Host.dotGeneral Cert.Reference2Ideal.dot_S16x1024x1024_S16x16x256x1024_S16x1024x16x256_1_3_2_02_0_1 none (shapeCast Cert.Reference2Ideal.S16x1024x1024 (extractStridedSlice Cert.Reference2Ideal.S1x16x1024x1024 ![0, 0, 0, 0] G Cert.Reference2Ideal.Gen.slices_S4x16x1024x1024_S1x16x1024x1024_0_0_0_0) Cert.Reference2Ideal.Gen.shapeCasts_S1x16x1024x1024_S16x1024x1024) (extf .f32 X Cert.Reference2Ideal.Gen.bitsLt_bf16_f32)) Cert.Reference2Ideal.Gen.transposes_S16x1024x16x256_S16x16x256x1024_2_0_3_1)))))) (transpose Cert.Reference2Ideal.S16x16x256x1024 [2, 0, 3, 1] (Host.dotGeneral Cert.Reference2Ideal.dot_S16x1024x1024_S16x16x256x1024_S16x1024x16x256_1_3_2_02_0_1 none (shapeCast Cert.Reference2Ideal.S16x1024x1024 (extractStridedSlice Cert.Reference2Ideal.S1x16x1024x1024 ![0, 0, 0, 0] U Cert.Reference2Ideal.Gen.slices_S4x16x1024x1024_S1x16x1024x1024_0_0_0_0) Cert.Reference2Ideal.Gen.shapeCasts_S1x16x1024x1024_S16x1024x1024) (extf .f32 X Cert.Reference2Ideal.Gen.bitsLt_bf16_f32)) Cert.Reference2Ideal.Gen.transposes_S16x1024x16x256_S16x16x256x1024_2_0_3_1))) Cert.Reference2Ideal.Gen.transposes_S16x1024x16x256_S16x16x256x1024_2_0_3_1) (broadcastInDim Cert.Reference2Ideal.S16x16x256x1024 ![0, 1, 2, 3] Cert.Reference2Ideal.Gen.bcast_S16x16x256x1_S16x16x256x1024_0_1_2_3 (extractStridedSlice Cert.Reference2Ideal.S16x16x256x1 ![0, 0, 0, 0] A Cert.Reference2Ideal.Gen.slices_S16x16x256x128_S16x16x256x1_0_0_0_0))) Cert.Reference2Ideal.Gen.bitsLt_bf16_f32

/-- The reference's rounded copy of layer 0's weights. -/
abbrev REFW (W : FVec Ideal S4x16x1024x1024 .f32) : FVec Ideal S16x1024x1024 .bf16 :=
  truncf .bf16 (shapeCast Cert.Reference2Ideal.S16x1024x1024 (extractStridedSlice Cert.Reference2Ideal.S1x16x1024x1024 ![0, 0, 0, 0] W Cert.Reference2Ideal.Gen.slices_S4x16x1024x1024_S1x16x1024x1024_0_0_0_0) Cert.Reference2Ideal.Gen.shapeCasts_S1x16x1024x1024_S16x1024x1024) Cert.Reference2Ideal.Gen.bitsLt_bf16_f32

/-- Which block each window stages at point t: expert t / 4, and rows t % 4. -/
theorem idx : ∀ t : Fin cfg0.N, win0_0.index t = ![t.val % 4, t.val / 4, 0, 0] ∧ win0_1.index t = ![t.val % 4, t.val / 4, 0, 0]
    ∧ win0_2.index t = ![0, t.val / 4, 0, 0] ∧ win0_3.index t = ![0, t.val / 4, 0, 0] ∧ win0_4.index t = ![0, t.val / 4, 0, 0]
    ∧ win0_5.index t = ![t.val % 4, t.val / 4, 0, 0]
    ∧ win0_6.index t = ![t.val / 4, 0, 0] ∧ win0_7.index t = ![t.val / 4, 0, 0] ∧ win0_8.index t = ![t.val / 4, 0, 0] :=
  (by decide +kernel : ∀ t : Fin grid0.N, _)

theorem first_div (t : Fin cfg0.N) : (first t).val / 4 = t.val / 4 := by simp only [first]; omega

/-- The kernel's products with the factors in the reference's order, and its logistic spelt out. -/
theorem swap (X : Fin 1024 → EReal) (G U : Fin 1024 → Fin 1024 → EReal) (D : Fin 1024 → EReal) (a : EReal) :
    (∑ f, ((∑ d, X d * G d f) * Ideal.logistic (∑ d, X d * G d f) * ∑ d, X d * U d f) * D f) * a
      = (∑ f, D f * ((∑ d, G d f * X d) * Ideal.div 1 (1 + Ideal.exp (-∑ d, G d f * X d)) * ∑ d, U d f * X d)) * a := by
  simp only [Ideal.logistic, mul_comm (X _), mul_comm (D _)]

/-- What the body leaves of the rows at a point, index by index. -/
theorem point5 (c : Dev nD) (t : Fin cfg0.N) (y) :
    k0_pay4 (iblk m c 0 t) (iblk m c 1 t) (gateW m c t) (upW m c t) (downW m c t) y
      = REF (m ((c : Thread nD τ).loc main_arg0)) (m ((c : Thread nD τ).loc main_arg1)) (m ((c : Thread nD τ).loc main_arg2))
          (m ((c : Thread nD τ).loc main_arg3)) (m ((c : Thread nD τ).loc main_arg4)) (((cfg0.win 5).blk t).view.emb y) := by
  have h := first_div t
  pointwise [k0_pay4, k0_pay1, k0_pay2, k0_pay3, gateW, upW, downW, REF]
  refine (swap _ _ _ _ _).trans ?_
  blk_point [iblk, V, idx t, idx (first t), h]

/-- The rows' result array. -/
theorem final5 (c : Dev nD) : (dats m 0 c).arrAt 5 (cfgs 0).N
    = REF (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t _ y => ?_
  blk_simp
  rw [after_5]
  exact point5 m c t y

theorem final6 (c : Dev nD) : (dats m 0 c).arrAt 6 (cfgs 0).N = REFW (m ((c : Thread nD τ).loc main_arg2)) := by
  refine (dats m 0 c).arrAt_eq_of_covers 6 _ (by decide +kernel) fun t _ y => ?_
  blk_simp
  rw [after_6]
  have h := first_div t
  pointwise [gateW, k0_pay1, REFW]
  blk_point [iblk, V, idx t, idx (first t), h]

theorem final7 (c : Dev nD) : (dats m 0 c).arrAt 7 (cfgs 0).N = REFW (m ((c : Thread nD τ).loc main_arg3)) := by
  refine (dats m 0 c).arrAt_eq_of_covers 7 _ (by decide +kernel) fun t _ y => ?_
  blk_simp
  rw [after_7]
  have h := first_div t
  pointwise [upW, k0_pay2, REFW]
  blk_point [iblk, V, idx t, idx (first t), h]

theorem final8 (c : Dev nD) : (dats m 0 c).arrAt 8 (cfgs 0).N = REFW (m ((c : Thread nD τ).loc main_arg4)) := by
  refine (dats m 0 c).arrAt_eq_of_covers 8 _ (by decide +kernel) fun t _ y => ?_
  blk_simp
  rw [after_8]
  have h := first_div t
  pointwise [downW, k0_pay3, REFW]
  blk_point [iblk, V, idx t, idx (first t), h]

end Cert.Kernel2Ideal.Moe

end
-- ==== Proof.MoeClaim.lean ====
/- The experts' call: kernel and reference compute the same four results over the extended reals. -/
module

public import proofs.«01_k».proof.Defs
public import proofs.«01_k».proof.Proof.MoeValue
public import Idealize.ShloMosaic.Lib.Claim

@[expose] public section

set_option maxRecDepth 16384

noncomputable section

namespace Cert.Kernel2Ideal.Moe

open Idealize.ShloMosaic Idealize.SL.Sem

set_option maxHeartbeats 1600000 in
/-- From memories that agree on the arguments, the kernel's four arrays end at the reference's. -/
theorem algebraic : Cert.algebraic_Kernel2Ideal_Reference2Ideal := by
  pair_intro
  · run_from run_main m g
  · run_from Cert.Reference2Ideal.Value.run m' g'
    · exact (final5 m c).symm
    · exact (final6 m c).symm
    · exact (final7 m c).symm
    · exact (final8 m c).symm

end Cert.Kernel2Ideal.Moe

end
-- ==== Proof.DaBlocks.lean ====
/- What each window of the attention's call stages at a point: two neighbouring heads of one batch. -/
module

public import proofs.«01_k».proof.Proof.Gen.KernelIdeal.Value
public import Idealize.ShloMosaic.Lib.Pipeline.ValueKit

@[expose] public section

set_option maxRecDepth 16384

noncomputable section

namespace Cert.KernelIdeal.Da

open Idealize.ShloMosaic Idealize.ShloMosaic.TcCoe Idealize.SL.Sem
open Cert.KernelIdeal Cert.KernelIdeal.Gen

variable (m : (ℓ : Loc nD τ sig) → Buf (Elt Ideal) ℓ) (c : Dev nD) (t : Fin cfg0.N)

/-- Which block each window stages at point t: batch t / 4, head pair t % 4. -/
theorem idx : ∀ t : Fin cfg0.N, win0_0.index t = ![t.val / 4, 0, t.val % 4] ∧ win0_1.index t = ![t.val / 4, 0, 4 + t.val % 4]
    ∧ win0_2.index t = ![t.val / 4, 0, 4 + t.val % 4] ∧ win0_3.index t = ![t.val / 4, 0, 8 + t.val % 4] ∧ win0_4.index t = ![t.val / 4, 0, 8 + t.val % 4]
    ∧ win0_5.index t = ![0, 0] ∧ win0_6.index t = ![0, 0] ∧ win0_7.index t = ![0, 0] ∧ win0_8.index t = ![0, 0] ∧ win0_9.index t = ![0, 0]
    ∧ win0_10.index t = ![t.val / 4, 0, t.val % 4] :=
  (by decide +kernel : ∀ t : Fin grid0.N, _)

theorem t_lt : t.val < 64 := t.isLt

theorem q_blk (n : Fin 2048) (l : Fin 256) : iblk m c 0 t (ix3 0 n l)
    = m ((c.tc : Thread nD τ).loc main_arg0) (ix3 ⟨t.val / 4, by have := t_lt t; omega⟩ n ⟨t.val % 4 * 256 + l.val, by omega⟩) := by
  blk_point [iblk, V, idx t]

theorem kc_blk (n : Fin 256) (l : Fin 256) : iblk m c 1 t (ix3 0 n l)
    = m ((c.tc : Thread nD τ).loc main_arg1) (ix3 ⟨t.val / 4, by have := t_lt t; omega⟩ n ⟨(4 + t.val % 4) * 256 + l.val, by omega⟩) := by
  blk_point [iblk, V, idx t]

theorem k_blk (n : Fin 2048) (l : Fin 256) : iblk m c 2 t (ix3 0 n l)
    = m ((c.tc : Thread nD τ).loc main_arg0) (ix3 ⟨t.val / 4, by have := t_lt t; omega⟩ n ⟨(4 + t.val % 4) * 256 + l.val, by omega⟩) := by
  blk_point [iblk, V, idx t]

theorem vc_blk (n : Fin 256) (l : Fin 256) : iblk m c 3 t (ix3 0 n l)
    = m ((c.tc : Thread nD τ).loc main_arg1) (ix3 ⟨t.val / 4, by have := t_lt t; omega⟩ n ⟨(8 + t.val % 4) * 256 + l.val, by omega⟩) := by
  blk_point [iblk, V, idx t]

theorem v_blk (n : Fin 2048) (l : Fin 256) : iblk m c 4 t (ix3 0 n l)
    = m ((c.tc : Thread nD τ).loc main_arg0) (ix3 ⟨t.val / 4, by have := t_lt t; omega⟩ n ⟨(8 + t.val % 4) * 256 + l.val, by omega⟩) := by
  blk_point [iblk, V, idx t]

theorem l5_blk (l : Fin 64) : iblk m c 5 t (ix2 0 l) = m ((c.tc : Thread nD τ).loc main_arg2) (ix2 0 l) := by
  blk_point [iblk, V, idx t]

theorem l6_blk (l : Fin 64) : iblk m c 6 t (ix2 0 l) = m ((c.tc : Thread nD τ).loc main_arg3) (ix2 0 l) := by
  blk_point [iblk, V, idx t]

theorem l7_blk (l : Fin 64) : iblk m c 7 t (ix2 0 l) = m ((c.tc : Thread nD τ).loc main_arg4) (ix2 0 l) := by
  blk_point [iblk, V, idx t]

theorem l8_blk (l : Fin 64) : iblk m c 8 t (ix2 0 l) = m ((c.tc : Thread nD τ).loc main_arg5) (ix2 0 l) := by
  blk_point [iblk, V, idx t]

theorem g_blk (l : Fin 128) : iblk m c 9 t (ix2 l 0) = m ((c.tc : Thread nD τ).loc main_arg6) (ix2 0 l) := by
  blk_point [iblk, V, idx t]

end Cert.KernelIdeal.Da

end
-- ==== Proof.DaItem.lean ====
/- One item of the attention's body: a head and a tile of 256 queries. Its stores of scores and of exponentials are read
   back from the scratch buffers, and what it stores into the result is one function of its operands. -/
module

public import proofs.«01_k».proof.Proof.Gen.KernelIdeal.Value
public import Idealize.ShloMosaic.Lib.Pipeline.ValueKit
public import Idealize.ShloMosaic.Lib.Pipeline.ReadBack

@[expose] public section

set_option maxRecDepth 16384

noncomputable section

namespace Cert.KernelIdeal.Da

open Idealize.ShloMosaic Idealize.ShloMosaic.TcCoe Idealize.SL.Sem
open Cert.KernelIdeal Cert.KernelIdeal.Gen

variable {F : FTy → Type} [FloatOps F] [Named F]

/-- The lanes of the first sub-head: lane mod 64 below 32. -/
def mask : IVec S1x128 1 := k0_pay17 (64#32) k0_pay14 k0_pay15 k0_pay16 (0#1)

/-- The scaled scores of a run of 768 keys against both sub-heads' queries. -/
def SC (q : Vec F S1x256x128 .bf16) (K : Vec F S1x768x128 .bf16) : FVec F S1x768x512 .f32 := k0_pay29 mask q K

/-- The largest score of each query over the three runs of keys. -/
def MX (q : Vec F S1x256x128 .bf16) (K0 K1 K2 : Vec F S1x768x128 .bf16) : FVec F S1x512 .f32 :=
  k0_pay26 (k0_pay27 mask q) (k0_pay30 mask q K0) (k0_pay28 mask q K1) K2

/-- Two to the scores less their largest. -/
def EX (M : FVec F S1x512 .f32) (s : Vec F S1x768x512 .f32) : FVec F S1x768x512 .bf16 := k0_pay31 M s

/-- The weighted values over their sums, the difference of the sub-heads and its norm. -/
def OUT (lam : FVec F S1x1 .f32) (g : Vec F S128x1 .f32) (vt : Vec F S1x144x2304 .bf16) (e : Vec F S1x2304x512 .bf16) : FVec F S1x256x128 .bf16 :=
  k0_pay44 (k0_pay41 lam vt e) (k0_pay42 lam vt e) k0_pay43 g

/-- Three runs of 768 rows, one above the other. -/
def join (w0 w1 w2 : Vec F S1x768x512 .bf16) : Vec F S1x2304x512 .bf16 := fun j =>
  if h : (j 1 : ℕ) < 768 then w0 (ix3 0 ⟨j 1, h⟩ (j 2))
  else if h' : (j 1 : ℕ) < 1536 then w1 (ix3 0 ⟨j 1 - 768, by omega⟩ (j 2))
  else w2 (ix3 0 ⟨j 1 - 1536, by have : (j 1 : ℕ) < 2304 := (j 1).isLt; omega⟩ (j 2))

/-- What an item stores, of its operands alone. -/
def ITEM (lam : FVec F S1x1 .f32) (g : Vec F S128x1 .f32) (q : Vec F S1x256x128 .bf16) (K0 K1 K2 : Vec F S1x768x128 .bf16)
    (vt : Vec F S1x144x2304 .bf16) : FVec F S1x256x128 .bf16 :=
  OUT lam g vt (join (EX (MX q K0 K1 K2) (SC q K0)) (EX (MX q K0 K1 K2) (SC q K1)) (EX (MX q K0 K1 K2) (SC q K2)))

/-- Three newest stores of 768 rows each, read as a whole. -/
theorem read_join {κ sp} (v : View sig κ sp S2x2304x512 .bf16) {p : ℕ}
    (h0 : ∀ a, (![p, 0, 0] : Fin 3 → ℕ) a + S1x768x512.size a ≤ S2x2304x512.size a)
    (h1 : ∀ a, (![p, 768, 0] : Fin 3 → ℕ) a + S1x768x512.size a ≤ S2x2304x512.size a)
    (h2 : ∀ a, (![p, 1536, 0] : Fin 3 → ℕ) a + S1x768x512.size a ≤ S2x2304x512.size a)
    (hw : ∀ a, (![p, 0, 0] : Fin 3 → ℕ) a + S1x2304x512.size a ≤ S2x2304x512.size a)
    (w0 w1 w2 : Vec F S1x768x512 .bf16) (L : List (View.Piece (Elt F) S2x2304x512 .bf16)) :
    v.readCov (⟨Rect.unit (s := S2x2304x512) ![p, 1536, 0] S1x768x512.size h2, w2⟩ :: ⟨Rect.unit (s := S2x2304x512) ![p, 768, 0] S1x768x512.size h1, w1⟩
        :: ⟨Rect.unit (s := S2x2304x512) ![p, 0, 0] S1x768x512.size h0, w0⟩ :: L) (Rect.unit (s := S2x2304x512) ![p, 0, 0] S1x2304x512.size hw).toLoadRect
      = join w0 w1 w2 := by
  rw [View.readCov_eq_canon']
  funext j
  have hj0 : (j 0 : ℕ) = 0 := by have : (j 0 : ℕ) < 1 := (j 0).isLt; omega
  have hj1 : (j 1 : ℕ) < 2304 := (j 1).isLt
  unfold join
  split
  · rename_i h
    refine (View.canon_cons_of_not_mem _ _ ?_).trans ((View.canon_cons_of_not_mem _ _ ?_).trans ?_)
    · intro hm
      have := (LoadRect.mem_set _).mp hm 1
      simp at this
      omega
    · intro hm
      have := (LoadRect.mem_set _).mp hm 1
      simp at this
      omega
    · refine (congrArg (View.canon _) ?_).trans (View.canon_cons_emb (Rect.unit (s := S2x2304x512) ![p, 0, 0] S1x768x512.size h0) w0 L (ix3 0 ⟨j 1, h⟩ (j 2)))
      funext a
      apply Fin.ext
      fin_cases a <;> simp [ix3, hj0]
  split
  · rename_i h h'
    refine (View.canon_cons_of_not_mem _ _ ?_).trans ?_
    · intro hm
      have := (LoadRect.mem_set _).mp hm 1
      simp at this
      omega
    · refine (congrArg (View.canon _) ?_).trans (View.canon_cons_emb (Rect.unit (s := S2x2304x512) ![p, 768, 0] S1x768x512.size h1) w1 _ (ix3 0 ⟨j 1 - 768, by omega⟩ (j 2)))
      funext a
      apply Fin.ext
      fin_cases a <;> simp [ix3, hj0]
      omega
  · rename_i h h'
    refine (congrArg (View.canon _) ?_).trans (View.canon_cons_emb (Rect.unit (s := S2x2304x512) ![p, 1536, 0] S1x768x512.size h2) w2 _ (ix3 0 ⟨j 1 - 1536, by omega⟩ (j 2)))
    funext a
    apply Fin.ext
    fin_cases a <;> simp [ix3, hj0]
    omega

/-- A load that the three newest stores miss and the fourth fills. -/
theorem read_fourth {κ sp} {s : Shape} {e : EltTy} (v : View sig κ sp s e) {R : Rect s} {w w' : R.shape.Idx → Elt F e} {A B C : View.Piece (Elt F) s e}
    {H L : List (View.Piece (Elt F) s e)} (h : H = A :: B :: C :: ⟨R, w⟩ :: L) (hA : LoadRect.disj A.1 R.toLoadRect = true)
    (hB : LoadRect.disj B.1 R.toLoadRect = true) (hC : LoadRect.disj C.1 R.toLoadRect = true) (hw : w = w') :
    v.readCov H R.toLoadRect = w' := by
  subst h hw
  exact (View.readCov_skip v A.1 A.2 _ _ hA).trans ((View.readCov_skip v B.1 B.2 _ _ hB).trans ((View.readCov_skip v C.1 C.2 _ _ hC).trans
    (View.readCov_cons_toLoadRect v R w L)))

/-- A load that the two newest stores miss and the third fills. -/
theorem read_third {κ sp} {s : Shape} {e : EltTy} (v : View sig κ sp s e) {R : Rect s} {w w' : R.shape.Idx → Elt F e} {A B : View.Piece (Elt F) s e}
    {H L : List (View.Piece (Elt F) s e)} (h : H = A :: B :: ⟨R, w⟩ :: L) (hA : LoadRect.disj A.1 R.toLoadRect = true)
    (hB : LoadRect.disj B.1 R.toLoadRect = true) (hw : w = w') : v.readCov H R.toLoadRect = w' := by
  subst h hw
  exact (View.readCov_skip v A.1 A.2 _ _ hA).trans ((View.readCov_skip v B.1 B.2 _ _ hB).trans (View.readCov_cons_toLoadRect v R w L))

/-- A load that the newest store misses and the second fills. -/
theorem read_second {κ sp} {s : Shape} {e : EltTy} (v : View sig κ sp s e) {R : Rect s} {w w' : R.shape.Idx → Elt F e} {A : View.Piece (Elt F) s e}
    {H L : List (View.Piece (Elt F) s e)} (h : H = A :: ⟨R, w⟩ :: L) (hA : LoadRect.disj A.1 R.toLoadRect = true) (hw : w = w') :
    v.readCov H R.toLoadRect = w' := by
  subst h hw
  exact (View.readCov_skip v A.1 A.2 _ _ hA).trans (View.readCov_cons_toLoadRect v R w L)

/-- A load that the newest store fills. -/
theorem read_first {κ sp} {s : Shape} {e : EltTy} (v : View sig κ sp s e) {R : Rect s} {w w' : R.shape.Idx → Elt F e}
    {H L : List (View.Piece (Elt F) s e)} (h : H = ⟨R, w⟩ :: L) (hw : w = w') : v.readCov H R.toLoadRect = w' := by
  subst h hw
  exact View.readCov_cons_toLoadRect v R w L

/-- An item whose scores and exponentials come back from the scratch buffers stores `ITEM`. -/
theorem item {κ sp} (v16 : View sig κ sp S2x2304x512 .bf16) {p : ℕ}
    (h0 : ∀ a, (![p, 0, 0] : Fin 3 → ℕ) a + S1x768x512.size a ≤ S2x2304x512.size a)
    (h1 : ∀ a, (![p, 768, 0] : Fin 3 → ℕ) a + S1x768x512.size a ≤ S2x2304x512.size a)
    (h2 : ∀ a, (![p, 1536, 0] : Fin 3 → ℕ) a + S1x768x512.size a ≤ S2x2304x512.size a)
    (hw : ∀ a, (![p, 0, 0] : Fin 3 → ℕ) a + S1x2304x512.size a ≤ S2x2304x512.size a)
    {lam : FVec F S1x1 .f32} {g : Vec F S128x1 .f32} {q : Vec F S1x256x128 .bf16} {K0 K1 K2 : Vec F S1x768x128 .bf16}
    {vt : Vec F S1x144x2304 .bf16} {H3 L : List (View.Piece (Elt F) S2x2304x512 .bf16)} {M : FVec F S1x512 .f32}
    {c0 c1 c2 : Vec F S1x768x512 .bf16} {s0 s1 s2 : Vec F S1x768x512 .f32}
    (e3 : H3 = ⟨Rect.unit (s := S2x2304x512) ![p, 1536, 0] S1x768x512.size h2, c2⟩
      :: ⟨Rect.unit (s := S2x2304x512) ![p, 768, 0] S1x768x512.size h1, c1⟩
      :: ⟨Rect.unit (s := S2x2304x512) ![p, 0, 0] S1x768x512.size h0, c0⟩ :: L)
    (e0 : c0 = EX M s0) (e1 : c1 = EX M s1) (e2 : c2 = EX M s2) (hM : M = MX q K0 K1 K2)
    (ha : s0 = SC q K0) (hb : s1 = SC q K1) (hc : s2 = SC q K2) :
    OUT lam g vt (v16.readCov H3 (Rect.unit (s := S2x2304x512) ![p, 0, 0] S1x2304x512.size hw).toLoadRect) = ITEM lam g q K0 K1 K2 vt := by
  subst e3 e0 e1 e2 hM ha hb hc
  rw [read_join]
  rfl

end Cert.KernelIdeal.Da

end
-- ==== Proof.DaPieces.lean ====
/- The sixteen stores into a point's result block, each of one item. -/
module

public import proofs.«01_k».proof.Proof.DaItem

@[expose] public section

set_option maxRecDepth 16384

noncomputable section

namespace Cert.KernelIdeal.Da

open Idealize.ShloMosaic Idealize.ShloMosaic.TcCoe Idealize.SL.Sem
open Cert.KernelIdeal Cert.KernelIdeal.Gen

variable {F : FTy → Type} [FloatOps F] [Named F]

theorem q_inb (hh : Fin 2) (t : Fin 8) : ∀ a, (![0, 256 * t.val, 128 * hh.val] : Fin 3 → ℕ) a + S1x256x128.size a ≤ S1x2048x256.size a := by
  revert hh t; decide

theorem k_inb (hh : Fin 2) (r : Fin 3) : ∀ a, (![hh.val, 768 * r.val, 0] : Fin 3 → ℕ) a + S1x768x128.size a ≤ S2x2304x128.size a := by
  revert hh r; decide

theorem v_inb (hh : Fin 2) : ∀ a, (![hh.val, 0, 0] : Fin 3 → ℕ) a + S1x144x2304.size a ≤ S2x144x2304.size a := by
  revert hh; decide

/-- The queries of head `hh` in tile `t`. -/
def Q (arg2 : Memref sig .tc .vmem S1x2048x256 .bf16) (b : arg2.view.ty.Contents (Elt F)) (hh : Fin 2) (t : Fin 8) : Vec F S1x256x128 .bf16 :=
  arg2.view.readAt (Elt F) (Rect.unit (s := S1x2048x256) ![0, 256 * t.val, 128 * hh.val] S1x256x128.size (q_inb hh t)).toLoadRect b

/-- A run of 768 keys of head `hh`, out of the scratch buffer. -/
def KK (arg13 : Memref sig .tc .vmem S2x2304x128 .bf16) (H : List (View.Piece (Elt F) S2x2304x128 .bf16)) (hh : Fin 2) (r : Fin 3) : Vec F S1x768x128 .bf16 :=
  arg13.view.readCov H (Rect.unit (s := S2x2304x128) ![hh.val, 768 * r.val, 0] S1x768x128.size (k_inb hh r)).toLoadRect

/-- The values of head `hh` and the rows of ones under them, out of the scratch buffer. -/
def VV (arg14 : Memref sig .tc .vmem S2x144x2304 .bf16) (H : List (View.Piece (Elt F) S2x144x2304 .bf16)) (hh : Fin 2) : Vec F S1x144x2304 .bf16 :=
  arg14.view.readCov H (Rect.unit (s := S2x144x2304) ![hh.val, 0, 0] S1x144x2304.size (v_inb hh)).toLoadRect

/-- A point's result block, item by item. -/
def BLK (lam : FVec F S1x1 .f32) (g : Vec F S128x1 .f32) (q : Fin 2 → Fin 8 → Vec F S1x256x128 .bf16) (K : Fin 2 → Fin 3 → Vec F S1x768x128 .bf16)
    (V : Fin 2 → Vec F S1x144x2304 .bf16) : Vec F S1x2048x256 .bf16 := fun y =>
  have h1 : (y 1 : ℕ) < 2048 := (y 1).isLt
  have h2 : (y 2 : ℕ) < 256 := (y 2).isLt
  let hh : Fin 2 := ⟨(y 2 : ℕ) / 128, by omega⟩
  ITEM lam g (q hh ⟨(y 1 : ℕ) / 256, by omega⟩) (K hh 0) (K hh 1) (K hh 2) (V hh)
    (ix3 0 ⟨(y 1 : ℕ) % 256, by omega⟩ ⟨(y 2 : ℕ) % 128, by omega⟩)

theorem BLK_at (lam : FVec F S1x1 .f32) (g : Vec F S128x1 .f32) (q : Fin 2 → Fin 8 → Vec F S1x256x128 .bf16) (K : Fin 2 → Fin 3 → Vec F S1x768x128 .bf16)
    (V : Fin 2 → Vec F S1x144x2304 .bf16) (hh : Fin 2) (t : Fin 8) (x : S1x256x128.Idx) :
    ITEM lam g (q hh t) (K hh 0) (K hh 1) (K hh 2) (V hh) x
      = BLK lam g q K V ((Rect.unit (s := S1x2048x256) ![0, 256 * t.val, 128 * hh.val] S1x256x128.size (q_inb hh t)).emb x) := by
  have h0 : (x 0 : ℕ) < 1 := (x 0).isLt
  have h1 : (x 1 : ℕ) < 256 := (x 1).isLt
  have h2 : (x 2 : ℕ) < 128 := (x 2).isLt
  have a1 : (256 * t.val + (x 1 : ℕ)) / 256 = t.val := by omega
  have a2 : (256 * t.val + (x 1 : ℕ)) % 256 = x 1 := by omega
  have b1 : (128 * hh.val + (x 2 : ℕ)) / 128 = hh.val := by omega
  have b2 : (128 * hh.val + (x 2 : ℕ)) % 128 = x 2 := by omega
  unfold BLK
  simp [Rect.emb_apply, a1, a2, b1, b2]
  congr 1
  funext a
  apply Fin.ext
  fin_cases a <;> simp [ix3]

theorem s_inb (p : Fin 2) (r : Fin 3) : ∀ a, (![p.val, 768 * r.val, 0] : Fin 3 → ℕ) a + S1x768x512.size a ≤ S2x2304x512.size a := by
  revert p r; decide

theorem w_inb (p : Fin 2) : ∀ a, (![p.val, 0, 0] : Fin 3 → ℕ) a + S1x2304x512.size a ≤ S2x2304x512.size a := by
  revert p; decide

/-- An item's store, at an index of it: head `hh`, tile `t`, through slot `p` of the scratch buffers. -/
theorem item_at {κ sp} (v16 : View sig κ sp S2x2304x512 .bf16) (lam : FVec F S1x1 .f32) (g : Vec F S128x1 .f32) (q : Fin 2 → Fin 8 → Vec F S1x256x128 .bf16)
    (K : Fin 2 → Fin 3 → Vec F S1x768x128 .bf16) (V : Fin 2 → Vec F S1x144x2304 .bf16) (p hh : Fin 2) (t : Fin 8)
    {H3 L : List (View.Piece (Elt F) S2x2304x512 .bf16)} {M : FVec F S1x512 .f32} {c0 c1 c2 : Vec F S1x768x512 .bf16} {s0 s1 s2 : Vec F S1x768x512 .f32}
    (e3 : H3 = ⟨Rect.unit (s := S2x2304x512) ![p.val, 1536, 0] S1x768x512.size (s_inb p 2), c2⟩
      :: ⟨Rect.unit (s := S2x2304x512) ![p.val, 768, 0] S1x768x512.size (s_inb p 1), c1⟩
      :: ⟨Rect.unit (s := S2x2304x512) ![p.val, 0, 0] S1x768x512.size (s_inb p 0), c0⟩ :: L)
    (e0 : c0 = EX M s0) (e1 : c1 = EX M s1) (e2 : c2 = EX M s2) (hM : M = MX (q hh t) (K hh 0) (K hh 1) (K hh 2))
    (ha : s0 = SC (q hh t) (K hh 0)) (hb : s1 = SC (q hh t) (K hh 1)) (hc : s2 = SC (q hh t) (K hh 2)) (x : S1x256x128.Idx) :
    OUT lam g (V hh) (v16.readCov H3 (Rect.unit (s := S2x2304x512) ![p.val, 0, 0] S1x2304x512.size (w_inb p)).toLoadRect) x
      = BLK lam g q K V ((Rect.unit (s := S1x2048x256) ![0, 256 * t.val, 128 * hh.val] S1x256x128.size (q_inb hh t)).emb x) :=
  (congrFun (item v16 _ _ _ _ e3 e0 e1 e2 hM ha hb hc) x).trans (BLK_at lam g q K V hh t x)

/-- The stores of a point's body into its result block are `BLK`'s. -/
theorem pieces (c : Dev nD) (i : grid0.Coords) (arg2 : Memref sig .tc .vmem S1x2048x256 .bf16) (harg2 : arg2.IsWhole) (arg3 : Memref sig .tc .vmem S1x256x256 .bf16) (harg3 : arg3.IsWhole) (arg4 : Memref sig .tc .vmem S1x2048x256 .bf16) (harg4 : arg4.IsWhole) (arg5 : Memref sig .tc .vmem S1x256x256 .bf16) (harg5 : arg5.IsWhole) (arg6 : Memref sig .tc .vmem S1x2048x256 .bf16) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S128x1 .f32) (harg11 : arg11.IsWhole) (arg12 : Memref sig .tc .vmem S1x2048x256 .bf16) (harg12 : arg12.IsWhole) (arg13 : Memref sig .tc .vmem S2x2304x128 .bf16) (harg13 : arg13.IsWhole) (arg14 : Memref sig .tc .vmem S2x144x2304 .bf16) (harg14 : arg14.IsWhole) (arg15 : Memref sig .tc .vmem S2x2304x512 .f32) (harg15 : arg15.IsWhole) (arg16 : Memref sig .tc .vmem S2x2304x512 .bf16) (harg16 : arg16.IsWhole)
  (x0 : Vec F S1x2048x256 .bf16) (x1 : Vec F S1x256x256 .bf16) (x2 : Vec F S1x2048x256 .bf16) (x3 : Vec F S1x256x256 .bf16) (x4 : Vec F S1x2048x256 .bf16) (x5 : Vec F S1x64 .f32) (x6 : Vec F S1x64 .f32) (x7 : Vec F S1x64 .f32) (x8 : Vec F S1x64 .f32) (x9 : Vec F S128x1 .f32)  :
    View.PiecesOf (BLK (kernelRun0_A.sl.r c arg7 harg7 arg8 harg8 arg9 harg9 arg10 harg10 x5 x6 x7 x8)
      (arg11.view.readAt (Elt F) (Rect.unit (s := S128x1) ![0, 0] S128x1.size inb_S128x1_S128x1_0_0).toLoadRect (harg11.unread x9))
      (Q arg2 (harg2.unread x0)) (KK arg13 (kernelRun0_A.sl.HS0_4 c arg3 harg3 arg4 harg4 x1 x2))
      (VV arg14 (kernelRun0_A.sl.HS1_6 c arg5 harg5 arg6 harg6 x3 x4)))
      (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9).1 := by
  have I := @item_at F _ _ _ _ arg16.view (kernelRun0_A.sl.r c arg7 harg7 arg8 harg8 arg9 harg9 arg10 harg10 x5 x6 x7 x8)
      (arg11.view.readAt (Elt F) (Rect.unit (s := S128x1) ![0, 0] S128x1.size inb_S128x1_S128x1_0_0).toLoadRect (harg11.unread x9))
      (Q arg2 (harg2.unread x0)) (KK arg13 (kernelRun0_A.sl.HS0_4 c arg3 harg3 arg4 harg4 x1 x2))
      (VV arg14 (kernelRun0_A.sl.HS1_6 c arg5 harg5 arg6 harg6 x3 x4))
  exact ⟨I 1 1 7 rfl rfl rfl rfl rfl (read_third _ rfl rfl rfl rfl) (read_second _ rfl rfl rfl) (read_first _ rfl rfl),
    I 0 1 6 rfl rfl rfl rfl rfl (read_fourth _ rfl rfl rfl rfl rfl) (read_fourth _ rfl rfl rfl rfl rfl) (read_fourth _ rfl rfl rfl rfl rfl),
    I 1 1 5 rfl rfl rfl rfl rfl (read_fourth _ rfl rfl rfl rfl rfl) (read_fourth _ rfl rfl rfl rfl rfl) (read_fourth _ rfl rfl rfl rfl rfl),
    I 0 1 4 rfl rfl rfl rfl rfl (read_fourth _ rfl rfl rfl rfl rfl) (read_fourth _ rfl rfl rfl rfl rfl) (read_fourth _ rfl rfl rfl rfl rfl),
    I 1 1 3 rfl rfl rfl rfl rfl (read_fourth _ rfl rfl rfl rfl rfl) (read_fourth _ rfl rfl rfl rfl rfl) (read_fourth _ rfl rfl rfl rfl rfl),
    I 0 1 2 rfl rfl rfl rfl rfl (read_fourth _ rfl rfl rfl rfl rfl) (read_fourth _ rfl rfl rfl rfl rfl) (read_fourth _ rfl rfl rfl rfl rfl),
    I 1 1 1 rfl rfl rfl rfl rfl (read_fourth _ rfl rfl rfl rfl rfl) (read_fourth _ rfl rfl rfl rfl rfl) (read_fourth _ rfl rfl rfl rfl rfl),
    I 0 1 0 rfl rfl rfl rfl rfl (read_fourth _ rfl rfl rfl rfl rfl) (read_fourth _ rfl rfl rfl rfl rfl) (read_fourth _ rfl rfl rfl rfl rfl),
    I 1 0 7 rfl rfl rfl rfl rfl (read_fourth _ rfl rfl rfl rfl rfl) (read_fourth _ rfl rfl rfl rfl rfl) (read_fourth _ rfl rfl rfl rfl rfl),
    I 0 0 6 rfl rfl rfl rfl rfl (read_fourth _ rfl rfl rfl rfl rfl) (read_fourth _ rfl rfl rfl rfl rfl) (read_fourth _ rfl rfl rfl rfl rfl),
    I 1 0 5 (s2 := kernelRun0_A.sl.v726 c arg2 harg2 arg3 harg3 arg4 harg4 arg13 arg15 x0 x1 x2) rfl rfl rfl rfl rfl (read_fourth _ rfl rfl rfl rfl rfl) (read_fourth _ rfl rfl rfl rfl rfl) (read_fourth _ rfl rfl rfl rfl rfl),
    I 0 0 4 rfl rfl rfl rfl rfl (read_fourth _ rfl rfl rfl rfl rfl) (read_fourth _ rfl rfl rfl rfl rfl) (read_fourth _ rfl rfl rfl rfl rfl),
    I 1 0 3 rfl rfl rfl rfl rfl (read_fourth _ rfl rfl rfl rfl rfl) (read_fourth _ rfl rfl rfl rfl rfl) (read_fourth _ rfl rfl rfl rfl rfl),
    I 0 0 2 rfl rfl rfl rfl rfl (read_fourth _ rfl rfl rfl rfl rfl) (read_fourth _ rfl rfl rfl rfl rfl) (read_fourth _ rfl rfl rfl rfl rfl),
    I 1 0 1 rfl rfl rfl rfl rfl (read_fourth _ rfl rfl rfl rfl rfl) (read_fourth _ rfl rfl rfl rfl rfl) (read_fourth _ rfl rfl rfl rfl rfl),
    I 0 0 0 rfl rfl rfl rfl rfl (read_fourth _ rfl rfl rfl rfl rfl) (read_fourth _ rfl rfl rfl rfl rfl) (read_fourth _ rfl rfl rfl rfl rfl), trivial⟩

end Cert.KernelIdeal.Da

end
-- ==== Proof.DaScratch.lean ====
/- What the scratch buffers hold: a head's keys in one, its values and a row of ones in the other, the context first. -/
module

public import proofs.«01_k».proof.Proof.DaPieces

@[expose] public section

set_option maxRecDepth 16384

noncomputable section

namespace Cert.KernelIdeal.Da

open Idealize.ShloMosaic Idealize.ShloMosaic.TcCoe Idealize.SL.Sem
open Cert.KernelIdeal Cert.KernelIdeal.Gen

/-- A load of an argument's window reads the window at the box's indices. -/
theorem load_at {s : Shape} {e : EltTy} {m : Memref sig .tc .vmem s e} (h : m.IsWhole) (X : s.Idx → Elt Ideal e) (r : LoadRect s) (j : r.shape.Idx) :
    m.view.readAt (Elt Ideal) r (h.unread X) j = X (r.idx j) := by
  rw [View.readAt_apply, h.read_unread]

/-- The two heads' keys. -/
def KG (x1 : Vec Ideal S1x256x256 .bf16) (x2 : Vec Ideal S1x2048x256 .bf16) : Vec Ideal S2x2304x128 .bf16 := fun y =>
  have h0 : (y 0 : ℕ) < 2 := (y 0).isLt
  have h1 : (y 1 : ℕ) < 2304 := (y 1).isLt
  have h2 : (y 2 : ℕ) < 128 := (y 2).isLt
  if h : (y 1 : ℕ) < 256 then x1 (ix3 0 ⟨y 1, h⟩ ⟨128 * (y 0 : ℕ) + (y 2 : ℕ), by omega⟩)
  else x2 (ix3 0 ⟨(y 1 : ℕ) - 256, by omega⟩ ⟨128 * (y 0 : ℕ) + (y 2 : ℕ), by omega⟩)

/-- The two heads' values, transposed, and sixteen rows of ones. -/
def VG (x3 : Vec Ideal S1x256x256 .bf16) (x4 : Vec Ideal S1x2048x256 .bf16) : Vec Ideal S2x144x2304 .bf16 := fun y =>
  have h0 : (y 0 : ℕ) < 2 := (y 0).isLt
  have h2 : (y 2 : ℕ) < 2304 := (y 2).isLt
  if h1 : (y 1 : ℕ) < 128 then
    (if h : (y 2 : ℕ) < 256 then x3 (ix3 0 ⟨y 2, h⟩ ⟨128 * (y 0 : ℕ) + (y 1 : ℕ), by omega⟩)
      else x4 (ix3 0 ⟨(y 2 : ℕ) - 256, by omega⟩ ⟨128 * (y 0 : ℕ) + (y 1 : ℕ), by omega⟩))
  else (1 : EReal)

theorem idx3 {n0 n1 n2 : ℕ} (h0 : n0 = 1) (z : (⟨3, ![n0, n1, n2]⟩ : Shape).Idx) (a : Fin n0) (b : Fin n1) (c : Fin n2) (h1 : (z 1 : ℕ) = b) (h2 : (z 2 : ℕ) = c) : z = ix3 a b c := by
  subst h0
  funext i
  apply Fin.ext
  fin_cases i
  · have : (z 0 : ℕ) < 1 := (z 0).isLt
    have : a.val < 1 := a.isLt
    show (z 0 : ℕ) = a.val
    omega
  · exact h1
  · exact h2

theorem KG_lo (x1 : Vec Ideal S1x256x256 .bf16) (x2 : Vec Ideal S1x2048x256 .bf16) (y : S2x2304x128.Idx) (z : S1x256x256.Idx)
    (h1 : (z 1 : ℕ) = y 1) (h2 : (z 2 : ℕ) = 128 * (y 0 : ℕ) + (y 2 : ℕ)) : x1 z = KG x1 x2 y := by
  have hz : (z 1 : ℕ) < 256 := (z 1).isLt
  unfold KG
  rw [dif_pos (by omega)]
  exact congrArg x1 (idx3 rfl z _ _ _ h1 h2)

theorem KG_hi (x1 : Vec Ideal S1x256x256 .bf16) (x2 : Vec Ideal S1x2048x256 .bf16) (y : S2x2304x128.Idx) (z : S1x2048x256.Idx)
    (h1 : 256 + (z 1 : ℕ) = y 1) (h2 : (z 2 : ℕ) = 128 * (y 0 : ℕ) + (y 2 : ℕ)) : x2 z = KG x1 x2 y := by
  unfold KG
  rw [dif_neg (by omega)]
  exact congrArg x2 (idx3 rfl z _ _ _ (by show _ = (y 1 : ℕ) - 256; omega) h2)

theorem VG_lo (x3 : Vec Ideal S1x256x256 .bf16) (x4 : Vec Ideal S1x2048x256 .bf16) (y : S2x144x2304.Idx) (z : S1x256x256.Idx)
    (h : (y 1 : ℕ) < 128) (h1 : (z 1 : ℕ) = y 2) (h2 : (z 2 : ℕ) = 128 * (y 0 : ℕ) + (y 1 : ℕ)) : x3 z = VG x3 x4 y := by
  have hz : (z 1 : ℕ) < 256 := (z 1).isLt
  unfold VG
  rw [dif_pos h, dif_pos (by omega)]
  exact congrArg x3 (idx3 rfl z _ _ _ h1 h2)

theorem VG_hi (x3 : Vec Ideal S1x256x256 .bf16) (x4 : Vec Ideal S1x2048x256 .bf16) (y : S2x144x2304.Idx) (z : S1x2048x256.Idx)
    (h : (y 1 : ℕ) < 128) (h1 : 256 + (z 1 : ℕ) = y 2) (h2 : (z 2 : ℕ) = 128 * (y 0 : ℕ) + (y 1 : ℕ)) : x4 z = VG x3 x4 y := by
  unfold VG
  rw [dif_pos h, dif_neg (by omega)]
  exact congrArg x4 (idx3 rfl z _ _ _ (by show _ = (y 2 : ℕ) - 256; omega) h2)

theorem VG_one (x3 : Vec Ideal S1x256x256 .bf16) (x4 : Vec Ideal S1x2048x256 .bf16) (y : S2x144x2304.Idx) (h : ¬ (y 1 : ℕ) < 128) : (1 : EReal) = VG x3 x4 y := by
  unfold VG
  rw [dif_neg h]

theorem pay2_at (v : Vec Ideal S1x256x128 .bf16) (x : Fin 1) (k : Fin 256) (l : Fin 128) : k0_pay2 v (ix3 x k l) = v (ix3 0 k l) := by
  obtain rfl : x = 0 := Subsingleton.elim _ _
  pointwise [k0_pay2]

theorem pay8_at (v : Vec Ideal S1x256x128 .bf16) (x : Fin 1) (k : Fin 256) (l : Fin 128) : k0_pay8 v (ix3 x k l) = v (ix3 0 k l) := by
  obtain rfl : x = 0 := Subsingleton.elim _ _
  pointwise [k0_pay8]

theorem pay4_at (v : Vec Ideal S1x2048x128 .bf16) (x : Fin 1) (k : Fin 2048) (l : Fin 128) : k0_pay4 v (ix3 x k l) = v (ix3 0 k l) := by
  obtain rfl : x = 0 := Subsingleton.elim _ _
  pointwise [k0_pay4]

theorem pay10_at (v : Vec Ideal S1x2048x128 .bf16) (x : Fin 1) (k : Fin 2048) (l : Fin 128) : k0_pay10 v (ix3 x k l) = v (ix3 0 k l) := by
  obtain rfl : x = 0 := Subsingleton.elim _ _
  pointwise [k0_pay10]

theorem pay3_at (v : Vec Ideal S1x256x128 .bf16) (x : Fin 1) (k : Fin 256) (l : Fin 128) : k0_pay3 v (ix3 x l k) = v (ix3 0 k l) := by
  obtain rfl : x = 0 := Subsingleton.elim _ _
  pointwise [k0_pay3]

theorem pay9_at (v : Vec Ideal S1x256x128 .bf16) (x : Fin 1) (k : Fin 256) (l : Fin 128) : k0_pay9 v (ix3 x l k) = v (ix3 0 k l) := by
  obtain rfl : x = 0 := Subsingleton.elim _ _
  pointwise [k0_pay9]

theorem pay5_at (v : Vec Ideal S1x2048x128 .bf16) (x : Fin 1) (k : Fin 2048) (l : Fin 128) : k0_pay5 v (ix3 x l k) = v (ix3 0 k l) := by
  obtain rfl : x = 0 := Subsingleton.elim _ _
  pointwise [k0_pay5]

theorem pay11_at (v : Vec Ideal S1x2048x128 .bf16) (x : Fin 1) (k : Fin 2048) (l : Fin 128) : k0_pay11 v (ix3 x l k) = v (ix3 0 k l) := by
  obtain rfl : x = 0 := Subsingleton.elim _ _
  pointwise [k0_pay11]

theorem pay7_at (x : Fin 1) (d : Fin 16) (k : Fin 2304) : k0_pay7 (F := Ideal) k0_pay6 (ix3 x d k) = (1 : EReal) := by
  pointwise [k0_pay7, k0_pay6]

theorem pay12_at (x : Fin 1) (d : Fin 16) (k : Fin 2304) : k0_pay12 (F := Ideal) kernelRun0_A.sl.cst_47 (ix3 x d k) = (1 : EReal) := by
  pointwise [k0_pay12]
  exact Ideal.ofBits_one_bf16

/-- The stores into the keys' scratch buffer. -/
theorem k_pieces (c : Dev nD) (arg3 : Memref sig .tc .vmem S1x256x256 .bf16) (harg3 : arg3.IsWhole) (arg4 : Memref sig .tc .vmem S1x2048x256 .bf16) (harg4 : arg4.IsWhole)
    (x1 : Vec Ideal S1x256x256 .bf16) (x2 : Vec Ideal S1x2048x256 .bf16) :
    View.PiecesOf (KG x1 x2) (kernelRun0_A.sl.HS0_4 c arg3 harg3 arg4 harg4 x1 x2) := by
  refine ⟨fun x => ?_, fun x => ?_, fun x => ?_, fun x => ?_, trivial⟩
  · obtain ⟨a, k, l, rfl⟩ : ∃ (a : Fin 1) (k : Fin 2048) (l : Fin 128), x = ix3 a k l := ⟨x 0, x 1, x 2, ValueIdx.eq_ix3 x⟩
    dsimp only
    refine (pay10_at _ a k l).trans ?_
    refine (load_at harg4 x2 _ _).trans (KG_hi x1 x2 _ _ ?_ ?_) <;> simp [Rect.emb_apply]
  · obtain ⟨a, k, l, rfl⟩ : ∃ (a : Fin 1) (k : Fin 256) (l : Fin 128), x = ix3 a k l := ⟨x 0, x 1, x 2, ValueIdx.eq_ix3 x⟩
    dsimp only
    refine (pay8_at _ a k l).trans ?_
    refine (load_at harg3 x1 _ _).trans (KG_lo x1 x2 _ _ ?_ ?_) <;> simp [Rect.emb_apply]
  · obtain ⟨a, k, l, rfl⟩ : ∃ (a : Fin 1) (k : Fin 2048) (l : Fin 128), x = ix3 a k l := ⟨x 0, x 1, x 2, ValueIdx.eq_ix3 x⟩
    dsimp only
    refine (pay4_at _ a k l).trans ?_
    refine (load_at harg4 x2 _ _).trans (KG_hi x1 x2 _ _ ?_ ?_) <;> simp [Rect.emb_apply]
  · obtain ⟨a, k, l, rfl⟩ : ∃ (a : Fin 1) (k : Fin 256) (l : Fin 128), x = ix3 a k l := ⟨x 0, x 1, x 2, ValueIdx.eq_ix3 x⟩
    dsimp only
    refine (pay2_at _ a k l).trans ?_
    refine (load_at harg3 x1 _ _).trans (KG_lo x1 x2 _ _ ?_ ?_) <;> simp [Rect.emb_apply]

/-- The stores into the values' scratch buffer. -/
theorem v_pieces (c : Dev nD) (arg5 : Memref sig .tc .vmem S1x256x256 .bf16) (harg5 : arg5.IsWhole) (arg6 : Memref sig .tc .vmem S1x2048x256 .bf16) (harg6 : arg6.IsWhole)
    (x3 : Vec Ideal S1x256x256 .bf16) (x4 : Vec Ideal S1x2048x256 .bf16) :
    View.PiecesOf (VG x3 x4) (kernelRun0_A.sl.HS1_6 c arg5 harg5 arg6 harg6 x3 x4) := by
  refine ⟨fun x => ?_, fun x => ?_, fun x => ?_, fun x => ?_, fun x => ?_, fun x => ?_, trivial⟩
  · obtain ⟨a, k, l, rfl⟩ : ∃ (a : Fin 1) (k : Fin 16) (l : Fin 2304), x = ix3 a k l := ⟨x 0, x 1, x 2, ValueIdx.eq_ix3 x⟩
    dsimp only
    refine (pay12_at a k l).trans (VG_one x3 x4 _ ?_) <;> simp [Rect.emb_apply]
  · obtain ⟨a, k, l, rfl⟩ : ∃ (a : Fin 1) (k : Fin 128) (l : Fin 2048), x = ix3 a k l := ⟨x 0, x 1, x 2, ValueIdx.eq_ix3 x⟩
    dsimp only
    refine (pay11_at _ a l k).trans ?_
    refine (load_at harg6 x4 _ _).trans (VG_hi x3 x4 _ _ ?_ ?_ ?_) <;> simp [Rect.emb_apply]
  · obtain ⟨a, k, l, rfl⟩ : ∃ (a : Fin 1) (k : Fin 128) (l : Fin 256), x = ix3 a k l := ⟨x 0, x 1, x 2, ValueIdx.eq_ix3 x⟩
    dsimp only
    refine (pay9_at _ a l k).trans ?_
    refine (load_at harg5 x3 _ _).trans (VG_lo x3 x4 _ _ ?_ ?_ ?_) <;> simp [Rect.emb_apply]
  · obtain ⟨a, k, l, rfl⟩ : ∃ (a : Fin 1) (k : Fin 16) (l : Fin 2304), x = ix3 a k l := ⟨x 0, x 1, x 2, ValueIdx.eq_ix3 x⟩
    dsimp only
    refine (pay7_at a k l).trans (VG_one x3 x4 _ ?_) <;> simp [Rect.emb_apply]
  · obtain ⟨a, k, l, rfl⟩ : ∃ (a : Fin 1) (k : Fin 128) (l : Fin 2048), x = ix3 a k l := ⟨x 0, x 1, x 2, ValueIdx.eq_ix3 x⟩
    dsimp only
    refine (pay5_at _ a l k).trans ?_
    refine (load_at harg6 x4 _ _).trans (VG_hi x3 x4 _ _ ?_ ?_ ?_) <;> simp [Rect.emb_apply]
  · obtain ⟨a, k, l, rfl⟩ : ∃ (a : Fin 1) (k : Fin 128) (l : Fin 256), x = ix3 a k l := ⟨x 0, x 1, x 2, ValueIdx.eq_ix3 x⟩
    dsimp only
    refine (pay3_at _ a l k).trans ?_
    refine (load_at harg5 x3 _ _).trans (VG_lo x3 x4 _ _ ?_ ?_ ?_) <;> simp [Rect.emb_apply]

theorem k_cover (c : Dev nD) (arg3 : Memref sig .tc .vmem S1x256x256 .bf16) (harg3 : arg3.IsWhole) (arg4 : Memref sig .tc .vmem S1x2048x256 .bf16) (harg4 : arg4.IsWhole)
    (x1 : Vec Ideal S1x256x256 .bf16) (x2 : Vec Ideal S1x2048x256 .bf16) (y : S2x2304x128.Idx) :
    ∃ p ∈ kernelRun0_A.sl.HS0_4 c arg3 harg3 arg4 harg4 x1 x2, y ∈ p.1.set := by
  have h0 : (y 0 : ℕ) < 2 := (y 0).isLt
  have h1 : (y 1 : ℕ) < 2304 := (y 1).isLt
  have h2 : (y 2 : ℕ) < 128 := (y 2).isLt
  by_cases h : (y 0 : ℕ) = 0 <;> by_cases h' : (y 1 : ℕ) < 256
  · refine ⟨_, List.mem_cons_of_mem _ (List.mem_cons_of_mem _ (List.mem_cons_of_mem _ List.mem_cons_self)), ?_⟩
    refine (Rect.mem_set_unit (inb := inb_S2x2304x128_S1x256x128_0_0_0)).mpr fun a => ?_
    fin_cases a <;> simp <;> omega
  · refine ⟨_, List.mem_cons_of_mem _ (List.mem_cons_of_mem _ List.mem_cons_self), ?_⟩
    refine (Rect.mem_set_unit (inb := inb_S2x2304x128_S1x2048x128_0_256_0)).mpr fun a => ?_
    fin_cases a <;> simp <;> omega
  · refine ⟨_, List.mem_cons_of_mem _ List.mem_cons_self, ?_⟩
    refine (Rect.mem_set_unit (inb := inb_S2x2304x128_S1x256x128_1_0_0)).mpr fun a => ?_
    fin_cases a <;> simp <;> omega
  · refine ⟨_, List.mem_cons_self, ?_⟩
    refine (Rect.mem_set_unit (inb := inb_S2x2304x128_S1x2048x128_1_256_0)).mpr fun a => ?_
    fin_cases a <;> simp <;> omega

theorem v_cover (c : Dev nD) (arg5 : Memref sig .tc .vmem S1x256x256 .bf16) (harg5 : arg5.IsWhole) (arg6 : Memref sig .tc .vmem S1x2048x256 .bf16) (harg6 : arg6.IsWhole)
    (x3 : Vec Ideal S1x256x256 .bf16) (x4 : Vec Ideal S1x2048x256 .bf16) (y : S2x144x2304.Idx) :
    ∃ p ∈ kernelRun0_A.sl.HS1_6 c arg5 harg5 arg6 harg6 x3 x4, y ∈ p.1.set := by
  have h0 : (y 0 : ℕ) < 2 := (y 0).isLt
  have h1 : (y 1 : ℕ) < 144 := (y 1).isLt
  have h2 : (y 2 : ℕ) < 2304 := (y 2).isLt
  by_cases h : (y 0 : ℕ) = 0 <;> by_cases h' : (y 1 : ℕ) < 128 <;> by_cases h'' : (y 2 : ℕ) < 256
  · refine ⟨_, List.mem_cons_of_mem _ (List.mem_cons_of_mem _ (List.mem_cons_of_mem _ (List.mem_cons_of_mem _ (List.mem_cons_of_mem _ List.mem_cons_self)))), ?_⟩
    refine (Rect.mem_set_unit (inb := inb_S2x144x2304_S1x128x256_0_0_0)).mpr fun a => ?_
    fin_cases a <;> simp <;> omega
  · refine ⟨_, List.mem_cons_of_mem _ (List.mem_cons_of_mem _ (List.mem_cons_of_mem _ (List.mem_cons_of_mem _ List.mem_cons_self))), ?_⟩
    refine (Rect.mem_set_unit (inb := inb_S2x144x2304_S1x128x2048_0_0_256)).mpr fun a => ?_
    fin_cases a <;> simp <;> omega
  · refine ⟨_, List.mem_cons_of_mem _ (List.mem_cons_of_mem _ (List.mem_cons_of_mem _ List.mem_cons_self)), ?_⟩
    refine (Rect.mem_set_unit (inb := inb_S2x144x2304_S1x16x2304_0_128_0)).mpr fun a => ?_
    fin_cases a <;> simp <;> omega
  · refine ⟨_, List.mem_cons_of_mem _ (List.mem_cons_of_mem _ (List.mem_cons_of_mem _ List.mem_cons_self)), ?_⟩
    refine (Rect.mem_set_unit (inb := inb_S2x144x2304_S1x16x2304_0_128_0)).mpr fun a => ?_
    fin_cases a <;> simp <;> omega
  · refine ⟨_, List.mem_cons_of_mem _ (List.mem_cons_of_mem _ List.mem_cons_self), ?_⟩
    refine (Rect.mem_set_unit (inb := inb_S2x144x2304_S1x128x256_1_0_0)).mpr fun a => ?_
    fin_cases a <;> simp <;> omega
  · refine ⟨_, List.mem_cons_of_mem _ List.mem_cons_self, ?_⟩
    refine (Rect.mem_set_unit (inb := inb_S2x144x2304_S1x128x2048_1_0_256)).mpr fun a => ?_
    fin_cases a <;> simp <;> omega
  · refine ⟨_, List.mem_cons_self, ?_⟩
    refine (Rect.mem_set_unit (inb := inb_S2x144x2304_S1x16x2304_1_128_0)).mpr fun a => ?_
    fin_cases a <;> simp <;> omega
  · refine ⟨_, List.mem_cons_self, ?_⟩
    refine (Rect.mem_set_unit (inb := inb_S2x144x2304_S1x16x2304_1_128_0)).mpr fun a => ?_
    fin_cases a <;> simp <;> omega

/-- A run of keys out of the scratch buffer. -/
theorem KK_at (c : Dev nD) (arg3 : Memref sig .tc .vmem S1x256x256 .bf16) (harg3 : arg3.IsWhole) (arg4 : Memref sig .tc .vmem S1x2048x256 .bf16) (harg4 : arg4.IsWhole)
    (arg13 : Memref sig .tc .vmem S2x2304x128 .bf16) (x1 : Vec Ideal S1x256x256 .bf16) (x2 : Vec Ideal S1x2048x256 .bf16) (hh : Fin 2) (r : Fin 3) (k : Fin 768) (l : Fin 128) :
    KK arg13 (kernelRun0_A.sl.HS0_4 c arg3 harg3 arg4 harg4 x1 x2) hh r (ix3 0 k l) = KG x1 x2 (ix3 hh ⟨768 * r.val + k.val, by omega⟩ l) := by
  unfold KK
  rw [View.readCov_eq_canon']
  refine (View.canon_apply_of_pieces (KG x1 x2) _ (k_pieces c arg3 harg3 arg4 harg4 x1 x2).mem _ (k_cover c arg3 harg3 arg4 harg4 x1 x2 _)).trans (congrArg _ ?_)
  funext a
  apply Fin.ext
  fin_cases a <;> simp [ix3]

/-- A head's values out of the scratch buffer. -/
theorem VV_at (c : Dev nD) (arg5 : Memref sig .tc .vmem S1x256x256 .bf16) (harg5 : arg5.IsWhole) (arg6 : Memref sig .tc .vmem S1x2048x256 .bf16) (harg6 : arg6.IsWhole)
    (arg14 : Memref sig .tc .vmem S2x144x2304 .bf16) (x3 : Vec Ideal S1x256x256 .bf16) (x4 : Vec Ideal S1x2048x256 .bf16) (hh : Fin 2) (d : Fin 144) (k : Fin 2304) :
    VV arg14 (kernelRun0_A.sl.HS1_6 c arg5 harg5 arg6 harg6 x3 x4) hh (ix3 0 d k) = VG x3 x4 (ix3 hh d k) := by
  unfold VV
  rw [View.readCov_eq_canon']
  refine (View.canon_apply_of_pieces (VG x3 x4) _ (v_pieces c arg5 harg5 arg6 harg6 x3 x4).mem _ (v_cover c arg5 harg5 arg6 harg6 x3 x4 _)).trans (congrArg _ ?_)
  funext a
  apply Fin.ext
  fin_cases a <;> simp [ix3]

/-- The queries of a tile, out of the argument's window. -/
theorem Q_at (arg2 : Memref sig .tc .vmem S1x2048x256 .bf16) (harg2 : arg2.IsWhole) (x0 : Vec Ideal S1x2048x256 .bf16) (hh : Fin 2) (t : Fin 8) (r : Fin 256) (l : Fin 128) :
    Q arg2 (harg2.unread x0) hh t (ix3 0 r l) = x0 (ix3 0 ⟨256 * t.val + r.val, by omega⟩ ⟨128 * hh.val + l.val, by omega⟩) := by
  unfold Q
  refine (load_at harg2 x0 _ _).trans (congrArg _ ?_)
  funext a
  apply Fin.ext
  fin_cases a <;> simp [ix3]

end Cert.KernelIdeal.Da

end
-- ==== Proof.DaMath.lean ====
/- The mathematics of the differential attention over the reals: a softmax does not see by how much its scores are shifted, nor whether
   its powers are of two or of e. -/
module

public import Idealize.ShloMosaic.Lib.Pipeline.ValueKit

@[expose] public section

noncomputable section

namespace Cert.DaMath

open Idealize.ShloMosaic

/-- A value of the extended reals that is a real number. -/
def IsR (x : EReal) : Prop := ∃ r : ℝ, x = (r : EReal)

theorem isR_of_bounds {x : EReal} (h : ⊥ < x) (h' : x < ⊤) : IsR x :=
  ⟨x.toReal, (EReal.coe_toReal h'.ne h.ne').symm⟩

theorem IsR.max {x y : EReal} (hx : IsR x) (hy : IsR y) : IsR (max x y) := by
  rcases max_choice x y with h | h <;> rw [h] <;> assumption

/-- The largest of finitely many reals, from minus infinity on, is a real. -/
theorem isR_fold {ι : Type*} [Fintype ι] [Nonempty ι] (f : ι → EReal) (h : ∀ i, IsR (f i)) : IsR (Finset.fold Max.max ⊥ f Finset.univ) := by
  apply isR_of_bounds
  · obtain ⟨i⟩ := ‹Nonempty ι›
    obtain ⟨r, hr⟩ := h i
    refine lt_of_lt_of_le (b := f i) (by rw [hr]; exact EReal.bot_lt_coe r) ?_
    exact (Finset.le_fold_max _).mpr (Or.inr ⟨i, Finset.mem_univ i, le_rfl⟩)
  · refine (Finset.fold_max_lt _).mpr ⟨bot_lt_top, fun i _ => ?_⟩
    obtain ⟨r, hr⟩ := h i
    rw [hr]
    exact EReal.coe_lt_top r

theorem coe_sum {ι : Type*} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

theorem exp2_shift (s N : ℝ) : Ideal.exp2 (((s * (1 / 8 * (Real.log 2)⁻¹) : ℝ) : EReal) - (N : EReal))
    = ((Real.exp (s / 8) * Real.exp (-(N * Real.log 2)) : ℝ) : EReal) := by
  rw [← EReal.coe_sub, Ideal.exp2_coe]
  congr 1
  have h : Real.log 2 ≠ 0 := (Real.log_pos one_lt_two).ne'
  show (2 : ℝ) ^ (_ : ℝ) = _
  rw [Real.rpow_def_of_pos two_pos, ← Real.exp_add]
  congr 1
  field_simp
  ring

theorem exp_shift (s M : ℝ) : Ideal.exp (((s * (1 / 8) : ℝ) : EReal) - (M : EReal)) = ((Real.exp (s / 8) * Real.exp (-M) : ℝ) : EReal) := by
  rw [← EReal.coe_sub, Ideal.exp_coe, ← Real.exp_add]
  congr 2
  ring

variable {ι : Type*} [Fintype ι] [Nonempty ι]

theorem sum_exp_pos (s : ι → ℝ) : 0 < ∑ k, Real.exp (s k / 8) :=
  Finset.sum_pos (fun k _ => Real.exp_pos _) Finset.univ_nonempty

/-- The kernel's quotient of two sums of powers of two. -/
theorem kernel_quotient (V s : ι → ℝ) (N : ℝ) :
    Ideal.div (∑ k, (V k : EReal) * Ideal.exp2 (((s k * (1 / 8 * (Real.log 2)⁻¹) : ℝ) : EReal) - (N : EReal)))
        (∑ k, (1 : EReal) * Ideal.exp2 (((s k * (1 / 8 * (Real.log 2)⁻¹) : ℝ) : EReal) - (N : EReal)))
      = (((∑ k, V k * Real.exp (s k / 8)) / ∑ k, Real.exp (s k / 8) : ℝ) : EReal) := by
  have hc := Real.exp_pos (-(N * Real.log 2))
  have hs := sum_exp_pos s
  simp only [exp2_shift, one_mul]
  simp only [← EReal.coe_mul, ← coe_sum, ← mul_assoc, ← Finset.sum_mul]
  rw [Ideal.div_coe (mul_pos hs hc).ne', ← EReal.coe_mul]
  congr 1
  field_simp

/-- The reference's softmax. -/
theorem softmax_real (s : ι → ℝ) (M : ℝ) (k : ι) :
    Ideal.div (Ideal.exp (((s k * (1 / 8) : ℝ) : EReal) - (M : EReal))) (∑ i, Ideal.exp (((s i * (1 / 8) : ℝ) : EReal) - (M : EReal)))
      = ((Real.exp (s k / 8) / ∑ i, Real.exp (s i / 8) : ℝ) : EReal) := by
  have hc := Real.exp_pos (-M)
  have hs := sum_exp_pos s
  simp only [exp_shift, ← coe_sum, ← Finset.sum_mul]
  rw [Ideal.div_coe (mul_pos hs hc).ne', ← EReal.coe_mul]
  congr 1
  field_simp

/-- The kernel's difference of two quotients is the reference's sum of values weighted by the difference of two softmaxes. -/
theorem attention (V s₀ s₁ : ι → ℝ) (N₀ N₁ M₀ M₁ lam : ℝ) :
    Ideal.div (∑ k, (V k : EReal) * Ideal.exp2 (((s₀ k * (1 / 8 * (Real.log 2)⁻¹) : ℝ) : EReal) - (N₀ : EReal)))
          (∑ k, (1 : EReal) * Ideal.exp2 (((s₀ k * (1 / 8 * (Real.log 2)⁻¹) : ℝ) : EReal) - (N₀ : EReal)))
        - (lam : EReal) * Ideal.div (∑ k, (V k : EReal) * Ideal.exp2 (((s₁ k * (1 / 8 * (Real.log 2)⁻¹) : ℝ) : EReal) - (N₁ : EReal)))
          (∑ k, (1 : EReal) * Ideal.exp2 (((s₁ k * (1 / 8 * (Real.log 2)⁻¹) : ℝ) : EReal) - (N₁ : EReal)))
      = ∑ k, (V k : EReal) * (Ideal.div (Ideal.exp (((s₀ k * (1 / 8) : ℝ) : EReal) - (M₀ : EReal))) (∑ i, Ideal.exp (((s₀ i * (1 / 8) : ℝ) : EReal) - (M₀ : EReal)))
          - (lam : EReal) * Ideal.div (Ideal.exp (((s₁ k * (1 / 8) : ℝ) : EReal) - (M₁ : EReal))) (∑ i, Ideal.exp (((s₁ i * (1 / 8) : ℝ) : EReal) - (M₁ : EReal)))) := by
  rw [kernel_quotient, kernel_quotient]
  simp only [softmax_real]
  simp only [← EReal.coe_mul, ← EReal.coe_sub, ← coe_sum]
  refine congrArg _ ?_
  simp only [mul_sub, Finset.sum_sub_distrib, Finset.sum_div, Finset.mul_sum]
  refine congrArg₂ (· - ·) (Finset.sum_congr rfl fun k _ => ?_) (Finset.sum_congr rfl fun k _ => ?_) <;> ring

/-- The 128 lanes of a head as two runs of two sub-heads of 32 lanes. -/
theorem sum_lanes {M : Type*} [AddCommMonoid M] (g : Fin 128 → M) :
    ∑ l, g l = ∑ d : Fin 32, ∑ p : Fin 2, ∑ j : Fin 2, g ⟨p.val * 64 + j.val * 32 + d.val, by omega⟩ := by
  rw [← (finProdFinEquiv (m := 4) (n := 32)).sum_comp g, Fintype.sum_prod_type_right]
  refine Finset.sum_congr rfl fun d _ => ?_
  rw [Fin.sum_univ_four, Fin.sum_univ_two, Fin.sum_univ_two, Fin.sum_univ_two, ← add_assoc]
  congr 1 <;> [congr 1 <;> [congr 1; skip]; skip] <;>
    exact congrArg g (Fin.ext (by simp [finProdFinEquiv]; try omega))

end Cert.DaMath

end
-- ==== Proof.DaPoint.lean ====
/- The attention's item over the extended reals, index by index. -/
module

public import proofs.«01_k».proof.Proof.DaPieces

@[expose] public section

set_option maxRecDepth 16384

noncomputable section

namespace Cert.KernelIdeal.Da

open Idealize.ShloMosaic Idealize.ShloMosaic.TcCoe Idealize.SL.Sem
open Cert.KernelIdeal Cert.KernelIdeal.Gen

theorem mask_lane (l : Fin 128) : mask (ix2 0 l) = if l.val % 64 < 32 then 1#1 else 0#1 := by
  revert l
  decide +kernel

/-- The queries side by side: the first 256 columns hold the lanes of the first sub-head, the others the lanes of the second. -/
theorem q2_at (q : Vec Ideal S1x256x128 .bf16) (c : Fin 512) (l : Fin 128) :
    k0_pay27 (F := Ideal) mask q (ix2 c l) = if h : c.val < 256 then Scalar.select (mask (ix2 0 l)) (q (ix3 0 ⟨c.val, h⟩ l)) 0
      else Scalar.select (mask (ix2 0 l)) 0 (q (ix3 0 ⟨c.val - 256, by omega⟩ l)) := by
  pointwise [k0_pay27]

theorem SC_at (q : Vec Ideal S1x256x128 .bf16) (K : Vec Ideal S1x768x128 .bf16) (k : Fin 768) (c : Fin 512) :
    SC q K (ix3 0 k c) = (∑ x, K (ix3 0 k x) * k0_pay27 (F := Ideal) mask q (ix2 c x)) * Named.named κ "scale" 1043900987#32 := by
  pointwise [SC, k0_pay29, k0_pay28]

/-- The scaled score of a key's row with a column of the queries. -/
def score (q : Vec Ideal S1x256x128 .bf16) (K : Vec Ideal S1x768x128 .bf16) (c : Fin 512) (k : Fin 768) : EReal :=
  (∑ x, K (ix3 0 k x) * k0_pay27 (F := Ideal) mask q (ix2 c x)) * Named.named (F := Ideal) (φ := .f32) κ "scale" 1043900987#32

theorem MX_at (q : Vec Ideal S1x256x128 .bf16) (K0 K1 K2 : Vec Ideal S1x768x128 .bf16) (c : Fin 512) :
    MX q K0 K1 K2 (ix2 0 c) = max (max (Finset.fold max (Ideal.ofBits FTy.f32 4286578688#32) (score q K0 c) Finset.univ)
      (Finset.fold max (Ideal.ofBits FTy.f32 4286578688#32) (score q K1 c) Finset.univ)) (Finset.fold max (Ideal.ofBits FTy.f32 4286578688#32) (score q K2 c) Finset.univ) := by
  pointwise [MX, k0_pay26, k0_pay30, k0_pay24, k0_pay28]
  rfl

theorem EX_at (M : FVec Ideal S1x512 .f32) (s : Vec Ideal S1x768x512 .f32) (k : Fin 768) (c : Fin 512) :
    EX M s (ix3 0 k c) = Ideal.exp2 (s (ix3 0 k c) - M (ix2 0 c)) := by
  pointwise [EX, k0_pay31]
  rfl

theorem OUT_at (lam : FVec Ideal S1x1 .f32) (g : Vec Ideal S128x1 .f32) (vt : Vec Ideal S1x144x2304 .bf16) (e : Vec Ideal S1x2304x512 .bf16) (r : Fin 256) (d : Fin 128) :
    OUT lam g vt e (ix3 0 r d) = k0_pay41 lam vt e (ix2 d r) * Ideal.rsqrt (Ideal.div (∑ x, k0_pay41 lam vt e (ix2 x r) * k0_pay41 lam vt e (ix2 x r)) (Ideal.ofBits FTy.f32 1124073472#32) + Ideal.ofBits FTy.f32 897988541#32) * g (ix2 d 0) * Ideal.ofBits FTy.f32 1061997773#32 := by
  pointwise [OUT, k0_pay44, k0_pay43, k0_pay42]

theorem o_at (lam : FVec Ideal S1x1 .f32) (vt : Vec Ideal S1x144x2304 .bf16) (e : Vec Ideal S1x2304x512 .bf16) (r : Fin 256) (d : Fin 128) :
    k0_pay41 lam vt e (ix2 d r) = Ideal.div (∑ x, vt (ix3 0 ⟨d.val, by omega⟩ x) * e (ix3 0 x ⟨r.val, by omega⟩)) (∑ x, vt (ix3 0 128 x) * e (ix3 0 x ⟨r.val, by omega⟩))
      - lam (ix2 0 0) * Ideal.div (∑ x, vt (ix3 0 ⟨d.val, by omega⟩ x) * e (ix3 0 x ⟨256 + r.val, by omega⟩)) (∑ x, vt (ix3 0 128 x) * e (ix3 0 x ⟨256 + r.val, by omega⟩)) := by
  pointwise [k0_pay41]

theorem lam_at (a b c d : Vec Ideal S1x64 .f32) :
    k0_pay13 a b c d (ix2 0 0) = Ideal.exp (∑ x, a (ix2 0 x) * b (ix2 0 x)) - Ideal.exp (∑ x, c (ix2 0 x) * d (ix2 0 x)) + Ideal.ofBits FTy.f32 1045220557#32 := by
  pointwise [k0_pay13]
  simp only [Fin.sum_univ_one, Finset.univ_unique, Finset.sum_const, Finset.card_singleton, one_smul]

/-- The three runs of exponentials put one after the other hold the exponential of every key's score. -/
theorem join_at (q : Vec Ideal S1x256x128 .bf16) (K0 K1 K2 : Vec Ideal S1x768x128 .bf16) (T : Fin 2304 → EReal) (k : Fin 2304) (c : Fin 512)
    (h0 : ∀ i : Fin 768, score q K0 c i = T ⟨i.val, by omega⟩) (h1 : ∀ i : Fin 768, score q K1 c i = T ⟨768 + i.val, by omega⟩)
    (h2 : ∀ i : Fin 768, score q K2 c i = T ⟨1536 + i.val, by omega⟩) :
    join (EX (MX q K0 K1 K2) (SC q K0)) (EX (MX q K0 K1 K2) (SC q K1)) (EX (MX q K0 K1 K2) (SC q K2)) (ix3 0 k c)
      = Ideal.exp2 (T k - MX q K0 K1 K2 (ix2 0 c)) := by
  unfold join
  split
  · rename_i h
    refine (EX_at _ _ ⟨k.val, h⟩ c).trans ?_
    rw [SC_at]
    exact congrArg (fun x => Ideal.exp2 (x - MX q K0 K1 K2 (ix2 0 c))) (h0 ⟨k.val, h⟩)
  split
  · rename_i h h'
    have h : ¬ k.val < 768 := h
    have h' : k.val < 1536 := h'
    refine (EX_at _ _ ⟨k.val - 768, by omega⟩ c).trans ?_
    rw [SC_at]
    refine congrArg (fun x => Ideal.exp2 (x - MX q K0 K1 K2 (ix2 0 c))) ((h1 ⟨k.val - 768, by omega⟩).trans (congrArg T (Fin.ext ?_)))
    show 768 + (k.val - 768) = k.val
    omega
  · rename_i h h'
    have h' : ¬ k.val < 1536 := h'
    refine (EX_at _ _ ⟨k.val - 1536, by omega⟩ c).trans ?_
    rw [SC_at]
    refine congrArg (fun x => Ideal.exp2 (x - MX q K0 K1 K2 (ix2 0 c))) ((h2 ⟨k.val - 1536, by omega⟩).trans (congrArg T (Fin.ext ?_)))
    show 1536 + (k.val - 1536) = k.val
    omega

end Cert.KernelIdeal.Da

end
-- ==== Proof.DaRef.lean ====
/- The differential attention's reference, index by index: its one result is named part by part. -/
module

public import proofs.«01_k».proof.Proof.Gen.ReferenceIdeal.Run
public import Idealize.ShloMosaic.Lib.Pipeline.ValueKit

@[expose] public section

set_option maxRecDepth 16384

noncomputable section

namespace Cert.ReferenceIdeal.Da

open Idealize.ShloMosaic Idealize.ShloMosaic.TcCoe Idealize.SL.Sem
open Cert.ReferenceIdeal Cert.ReferenceIdeal.Gen

/-- The queries, by head, run, sub-head and lane. -/
def QR (A0 : FVec Ideal S16x2048x3072 .bf16) : FVec Ideal S16x2048x8x2x2x32 .f32 :=
  shapeCast _ (extractStridedSlice S16x2048x1x8x2x2x32 ![0, 0, 0, 0, 0, 0, 0] (shapeCast _ (extractStridedSlice S16x2048x2048 ![0, 0, 0] (extf .f32 A0 bitsLt_bf16_f32) slices_S16x2048x3072_S16x2048x2048_0_0_0) shapeCasts_S16x2048x2048_S16x2048x2x8x2x2x32) slices_S16x2048x2x8x2x2x32_S16x2048x1x8x2x2x32_0_0_0_0_0_0_0) shapeCasts_S16x2048x1x8x2x2x32_S16x2048x8x2x2x32

/-- The keys, the context first. -/
def KR (A0 : FVec Ideal S16x2048x3072 .bf16) (A1 : FVec Ideal S16x256x3072 .bf16) : FVec Ideal S16x2304x8x2x2x32 .f32 :=
  concatenate S16x2304x8x2x2x32 1 [⟨S16x256x8x2x2x32, (shapeCast _ (extractStridedSlice S16x256x1x8x2x2x32 ![0, 0, 1, 0, 0, 0, 0] (shapeCast _ (extractStridedSlice S16x256x2048 ![0, 0, 0] (extf .f32 A1 bitsLt_bf16_f32) slices_S16x256x3072_S16x256x2048_0_0_0) shapeCasts_S16x256x2048_S16x256x2x8x2x2x32) slices_S16x256x2x8x2x2x32_S16x256x1x8x2x2x32_0_0_1_0_0_0_0) shapeCasts_S16x256x1x8x2x2x32_S16x256x8x2x2x32)⟩, ⟨S16x2048x8x2x2x32, (shapeCast _ (extractStridedSlice S16x2048x1x8x2x2x32 ![0, 0, 1, 0, 0, 0, 0] (shapeCast _ (extractStridedSlice S16x2048x2048 ![0, 0, 0] (extf .f32 A0 bitsLt_bf16_f32) slices_S16x2048x3072_S16x2048x2048_0_0_0) shapeCasts_S16x2048x2048_S16x2048x2x8x2x2x32) slices_S16x2048x2x8x2x2x32_S16x2048x1x8x2x2x32_0_0_1_0_0_0_0) shapeCasts_S16x2048x1x8x2x2x32_S16x2048x8x2x2x32)⟩] concatenates_S16x256x8x2x2x32_S16x2048x8x2x2x32_S16x2304x8x2x2x32_d1

/-- The scaled scores. -/
def SR (A0 : FVec Ideal S16x2048x3072 .bf16) (A1 : FVec Ideal S16x256x3072 .bf16) : FVec Ideal S16x8x2x2048x2304 .f32 :=
  mulf (Host.dotGeneral dot_S16x2048x8x2x2x32_S16x2304x8x2x2x32_S16x8x2x2048x2304_53_53_1_1_024_024 none (QR A0) (KR A0 A1)) (broadcastInDim S16x8x2x2048x2304 ![] bcast_S_S16x8x2x2048x2304 (constant S_ .f32 0x3E000000#32))

/-- The largest score of each query. -/
def MR (A0 : FVec Ideal S16x2048x3072 .bf16) (A1 : FVec Ideal S16x256x3072 .bf16) : FVec Ideal S16x8x2x2048 .f32 :=
  maximumf (broadcastInDim S16x8x2x2048 ![] bcast_S_S16x8x2x2048 (constant S_ .f32 0xFF800000#32)) (Host.reduce FloatOps.maximumf (SR A0 A1) (constant S_ .f32 0xFF800000#32) reducesTo_S16x8x2x2048x2304_S16x8x2x2048_d4 h_S_)

/-- The exponentials of the scores less their largest. -/
def ER (A0 : FVec Ideal S16x2048x3072 .bf16) (A1 : FVec Ideal S16x256x3072 .bf16) : FVec Ideal S16x8x2x2048x2304 .f32 :=
  Host.exp (subf (SR A0 A1) (broadcastInDim S16x8x2x2048x2304 ![0, 1, 2, 3, 4] bcast_S16x8x2x2048x1_S16x8x2x2048x2304_0_1_2_3_4 (broadcastInDim S16x8x2x2048x1 ![0, 1, 2, 3] bcast_S16x8x2x2048_S16x8x2x2048x1_0_1_2_3 (MR A0 A1))))

/-- The softmax. -/
def PR (A0 : FVec Ideal S16x2048x3072 .bf16) (A1 : FVec Ideal S16x256x3072 .bf16) : FVec Ideal S16x8x2x2048x2304 .f32 :=
  Host.divf (ER A0 A1) (broadcastInDim S16x8x2x2048x2304 ![0, 1, 2, 3, 4] bcast_S16x8x2x2048x1_S16x8x2x2048x2304_0_1_2_3_4 (broadcastInDim S16x8x2x2048x1 ![0, 1, 2, 3] bcast_S16x8x2x2048_S16x8x2x2048x1_0_1_2_3 (Host.reduceAdd (ER A0 A1) (constant S_ .f32 0x00000000#32) reducesTo_S16x8x2x2048x2304_S16x8x2x2048_d4 h_S_)))

/-- The factor of the second sub-head. -/
def LR (A2 : FVec Ideal S1x64 .f32) (A3 : FVec Ideal S1x64 .f32) (A4 : FVec Ideal S1x64 .f32) (A5 : FVec Ideal S1x64 .f32) : FVec Ideal S_ .f32 :=
  addf (subf (Host.exp (Host.reduceAdd (mulf (shapeCast _ A2 shapeCasts_S1x64_S64) (shapeCast _ A3 shapeCasts_S1x64_S64)) (constant S_ .f32 0x00000000#32) reducesTo_S64_S_d0 h_S_)) (Host.exp (Host.reduceAdd (mulf (shapeCast _ A4 shapeCasts_S1x64_S64) (shapeCast _ A5 shapeCasts_S1x64_S64)) (constant S_ .f32 0x00000000#32) reducesTo_S64_S_d0 h_S_))) (constant S_ .f32 0x3E4CCCCD#32)

/-- The values, the context first. -/
def VR (A0 : FVec Ideal S16x2048x3072 .bf16) (A1 : FVec Ideal S16x256x3072 .bf16) : FVec Ideal S16x2304x8x128 .f32 :=
  concatenate S16x2304x8x128 1 [⟨S16x256x8x128, (shapeCast _ (extractStridedSlice S16x256x1024 ![0, 0, 2048] (extf .f32 A1 bitsLt_bf16_f32) slices_S16x256x3072_S16x256x1024_0_0_2048) shapeCasts_S16x256x1024_S16x256x8x128)⟩, ⟨S16x2048x8x128, (shapeCast _ (extractStridedSlice S16x2048x1024 ![0, 0, 2048] (extf .f32 A0 bitsLt_bf16_f32) slices_S16x2048x3072_S16x2048x1024_0_0_2048) shapeCasts_S16x2048x1024_S16x2048x8x128)⟩] concatenates_S16x256x8x128_S16x2048x8x128_S16x2304x8x128_d1

/-- The difference of the two softmaxes. -/
def AR (A0 : FVec Ideal S16x2048x3072 .bf16) (A1 : FVec Ideal S16x256x3072 .bf16) (A2 : FVec Ideal S1x64 .f32) (A3 : FVec Ideal S1x64 .f32) (A4 : FVec Ideal S1x64 .f32) (A5 : FVec Ideal S1x64 .f32) : FVec Ideal S16x8x2048x2304 .f32 :=
  subf (shapeCast _ (extractStridedSlice S16x8x1x2048x2304 ![0, 0, 0, 0, 0] (PR A0 A1) slices_S16x8x2x2048x2304_S16x8x1x2048x2304_0_0_0_0_0) shapeCasts_S16x8x1x2048x2304_S16x8x2048x2304) (mulf (broadcastInDim S16x8x2048x2304 ![] bcast_S_S16x8x2048x2304 (LR A2 A3 A4 A5)) (shapeCast _ (extractStridedSlice S16x8x1x2048x2304 ![0, 0, 1, 0, 0] (PR A0 A1) slices_S16x8x2x2048x2304_S16x8x1x2048x2304_0_0_1_0_0) shapeCasts_S16x8x1x2048x2304_S16x8x2048x2304))

/-- The weighted values. -/
def OR (A0 : FVec Ideal S16x2048x3072 .bf16) (A1 : FVec Ideal S16x256x3072 .bf16) (A2 : FVec Ideal S1x64 .f32) (A3 : FVec Ideal S1x64 .f32) (A4 : FVec Ideal S1x64 .f32) (A5 : FVec Ideal S1x64 .f32) : FVec Ideal S16x2048x8x128 .f32 :=
  transpose S16x2048x8x128 [0, 3, 1, 2] (Host.dotGeneral dot_S16x2304x8x128_S16x8x2048x2304_S16x8x128x2048_1_3_3_2_02_01 none (VR A0 A1) (AR A0 A1 A2 A3 A4 A5)) transposes_S16x8x128x2048_S16x2048x8x128_0_3_1_2

/-- The result. -/
def RES (A0 : FVec Ideal S16x2048x3072 .bf16) (A1 : FVec Ideal S16x256x3072 .bf16) (A2 A3 A4 A5 : FVec Ideal S1x64 .f32) (A6 : FVec Ideal S1x128 .f32) : FVec Ideal S16x2048x1024 .bf16 :=
  truncf .bf16 (shapeCast _ (mulf (mulf (mulf (OR A0 A1 A2 A3 A4 A5) (broadcastInDim S16x2048x8x128 ![0, 1, 2, 3] bcast_S16x2048x8x1_S16x2048x8x128_0_1_2_3 (Host.rsqrt (addf (Host.divf (broadcastInDim S16x2048x8x1 ![0, 1, 2] bcast_S16x2048x8_S16x2048x8x1_0_1_2 (Host.reduceAdd (mulf (OR A0 A1 A2 A3 A4 A5) (OR A0 A1 A2 A3 A4 A5)) (constant S_ .f32 0x00000000#32) reducesTo_S16x2048x8x128_S16x2048x8_d3 h_S_)) (broadcastInDim S16x2048x8x1 ![] bcast_S_S16x2048x8x1 (constant S_ .f32 0x43000000#32))) (broadcastInDim S16x2048x8x1 ![] bcast_S_S16x2048x8x1 (constant S_ .f32 0x358637BD#32)))))) (broadcastInDim S16x2048x8x128 ![0, 1, 2, 3] bcast_S1x1x1x128_S16x2048x8x128_0_1_2_3 (broadcastInDim S1x1x1x128 ![3] bcast_S128_S1x1x1x128_3 (shapeCast _ A6 shapeCasts_S1x128_S128)))) (broadcastInDim S16x2048x8x128 ![] bcast_S_S16x2048x8x128 (constant S_ .f32 0x3F4CCCCD#32))) shapeCasts_S16x2048x8x128_S16x2048x1024) bitsLt_bf16_f32

theorem res_eq (m : (ℓ : Loc nD τ sig) → Buf (Elt Ideal) ℓ) (c : Dev nD) :
    Value.res_main_v72 m c = RES (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6)) := rfl

variable (A0 : FVec Ideal S16x2048x3072 .bf16) (A1 : FVec Ideal S16x256x3072 .bf16) (A2 A3 A4 A5 : FVec Ideal S1x64 .f32) (A6 : FVec Ideal S1x128 .f32)

end Cert.ReferenceIdeal.Da

end
-- ==== Proof.DaRefPoint.lean ====
/- The reference of the differential attention, one index at a time. -/
module

public import proofs.«01_k».proof.Proof.DaRef

@[expose] public section

set_option maxRecDepth 16384

noncomputable section

namespace Cert.ReferenceIdeal.Da

open Idealize.ShloMosaic Idealize.ShloMosaic.TcCoe Idealize.SL.Sem
open Cert.ReferenceIdeal Cert.ReferenceIdeal.Gen

variable (A0 : FVec Ideal S16x2048x3072 .bf16) (A1 : FVec Ideal S16x256x3072 .bf16) (A2 A3 A4 A5 : FVec Ideal S1x64 .f32) (A6 : FVec Ideal S1x128 .f32)

theorem QR_at (b : Fin 16) (n : Fin 2048) (h : Fin 8) (p j : Fin 2) (d : Fin 32) :
    QR A0 (ix6 b n h p j d) = A0 (ix3 b n ⟨h.val * 128 + p.val * 64 + j.val * 32 + d.val, by omega⟩) := by
  pointwise [QR]

theorem KR_at (b : Fin 16) (n : Fin 2304) (h : Fin 8) (p j : Fin 2) (d : Fin 32) :
    KR A0 A1 (ix6 b n h p j d) = if hn : n.val < 256 then A1 (ix3 b ⟨n.val, hn⟩ ⟨1024 + h.val * 128 + p.val * 64 + j.val * 32 + d.val, by omega⟩)
      else A0 (ix3 b ⟨n.val - 256, by omega⟩ ⟨1024 + h.val * 128 + p.val * 64 + j.val * 32 + d.val, by omega⟩) := by
  pointwise [KR]

theorem VR_at (b : Fin 16) (n : Fin 2304) (h : Fin 8) (d : Fin 128) :
    VR A0 A1 (ix4 b n h d) = if hn : n.val < 256 then A1 (ix3 b ⟨n.val, hn⟩ ⟨2048 + (h.val * 128 + d.val), by omega⟩)
      else A0 (ix3 b ⟨n.val - 256, by omega⟩ ⟨2048 + (h.val * 128 + d.val), by omega⟩) := by
  pointwise [VR]

theorem SR_at (b : Fin 16) (h : Fin 8) (j : Fin 2) (n : Fin 2048) (k : Fin 2304) :
    SR A0 A1 (ix5 b h j n k) = (∑ x : Fin 32, ∑ p : Fin 2, QR A0 (ix6 b n h p j x) * KR A0 A1 (ix6 b k h p j x)) * Ideal.ofBits FTy.f32 1040187392#32 := by
  pointwise [SR]

theorem fold_at (T : FVec Ideal S16x8x2x2048x2304 .f32) (b : Fin 16) (h : Fin 8) (j : Fin 2) (n : Fin 2048) :
    (Host.reduce FloatOps.maximumf T (constant S_ .f32 0xFF800000#32) reducesTo_S16x8x2x2048x2304_S16x8x2x2048_d4 h_S_ : FVec Ideal S16x8x2x2048 .f32) (ix4 b h j n)
      = Finset.fold max (Ideal.ofBits FTy.f32 4286578688#32) (fun x => T (ix5 b h j n x)) Finset.univ := by
  pointwise

theorem floor_at (b : Fin 16) (h : Fin 8) (j : Fin 2) (n : Fin 2048) :
    (broadcastInDim S16x8x2x2048 ![] bcast_S_S16x8x2x2048 (constant S_ .f32 0xFF800000#32) : FVec Ideal S16x8x2x2048 .f32) (ix4 b h j n)
      = Ideal.ofBits FTy.f32 4286578688#32 := by
  pointwise

theorem max_at {S : Shape} (x y : FVec Ideal S .f32) (i : S.Idx) : maximumf x y i = max (x i) (y i) := rfl

theorem sub_mul_at {S : Shape} (x y z : FVec Ideal S .f32) (i : S.Idx) : subf x (mulf y z) i = x i - y i * z i := rfl

theorem MR_at (b : Fin 16) (h : Fin 8) (j : Fin 2) (n : Fin 2048) :
    MR A0 A1 (ix4 b h j n) = max (Ideal.ofBits FTy.f32 4286578688#32)
      (Finset.fold max (Ideal.ofBits FTy.f32 4286578688#32) (fun x => SR A0 A1 (ix5 b h j n x)) Finset.univ) := by
  unfold MR
  rw [max_at, floor_at, fold_at]

theorem ER_at (b : Fin 16) (h : Fin 8) (j : Fin 2) (n : Fin 2048) (k : Fin 2304) :
    ER A0 A1 (ix5 b h j n k) = Ideal.exp (SR A0 A1 (ix5 b h j n k) - MR A0 A1 (ix4 b h j n)) := by
  pointwise [ER]

theorem PR_at (b : Fin 16) (h : Fin 8) (j : Fin 2) (n : Fin 2048) (k : Fin 2304) :
    PR A0 A1 (ix5 b h j n k) = Ideal.div (ER A0 A1 (ix5 b h j n k)) (∑ x, ER A0 A1 (ix5 b h j n x)) := by
  pointwise [PR]

theorem LR_at : LR A2 A3 A4 A5 ix0 = Ideal.exp (∑ x, A2 (ix2 0 x) * A3 (ix2 0 x)) - Ideal.exp (∑ x, A4 (ix2 0 x) * A5 (ix2 0 x)) + Ideal.ofBits FTy.f32 1045220557#32 := by
  pointwise [LR]

theorem run0_at (T : FVec Ideal S16x8x2x2048x2304 .f32) (b : Fin 16) (h : Fin 8) (n : Fin 2048) (k : Fin 2304) :
    (shapeCast S16x8x2048x2304 (extractStridedSlice S16x8x1x2048x2304 ![0, 0, 0, 0, 0] T slices_S16x8x2x2048x2304_S16x8x1x2048x2304_0_0_0_0_0)
      shapeCasts_S16x8x1x2048x2304_S16x8x2048x2304) (ix4 b h n k) = T (ix5 b h 0 n k) := by
  pointwise

theorem run1_at (T : FVec Ideal S16x8x2x2048x2304 .f32) (b : Fin 16) (h : Fin 8) (n : Fin 2048) (k : Fin 2304) :
    (shapeCast S16x8x2048x2304 (extractStridedSlice S16x8x1x2048x2304 ![0, 0, 1, 0, 0] T slices_S16x8x2x2048x2304_S16x8x1x2048x2304_0_0_1_0_0)
      shapeCasts_S16x8x1x2048x2304_S16x8x2048x2304) (ix4 b h n k) = T (ix5 b h 1 n k) := by
  pointwise

theorem factor_at (T : FVec Ideal S_ .f32) (b : Fin 16) (h : Fin 8) (n : Fin 2048) (k : Fin 2304) :
    (broadcastInDim S16x8x2048x2304 ![] bcast_S_S16x8x2048x2304 T : FVec Ideal S16x8x2048x2304 .f32) (ix4 b h n k) = T ix0 := by
  pointwise

theorem AR_at (b : Fin 16) (h : Fin 8) (n : Fin 2048) (k : Fin 2304) :
    AR A0 A1 A2 A3 A4 A5 (ix4 b h n k) = PR A0 A1 (ix5 b h 0 n k) - LR A2 A3 A4 A5 ix0 * PR A0 A1 (ix5 b h 1 n k) := by
  unfold AR
  rw [sub_mul_at, run0_at, factor_at, run1_at]

theorem OR_at (b : Fin 16) (n : Fin 2048) (h : Fin 8) (e : Fin 128) :
    OR A0 A1 A2 A3 A4 A5 (ix4 b n h e) = ∑ x, VR A0 A1 (ix4 b x h e) * AR A0 A1 A2 A3 A4 A5 (ix4 b h n x) := by
  pointwise [OR]

theorem RES_at (b : Fin 16) (n : Fin 2048) (l : Fin 1024) :
    RES A0 A1 A2 A3 A4 A5 A6 (ix3 b n l) = OR A0 A1 A2 A3 A4 A5 (ix4 b n ⟨l.val / 128, by omega⟩ ⟨l.val % 128, by omega⟩)
      * Ideal.rsqrt (Ideal.div (∑ x, OR A0 A1 A2 A3 A4 A5 (ix4 b n ⟨l.val / 128, by omega⟩ x) * OR A0 A1 A2 A3 A4 A5 (ix4 b n ⟨l.val / 128, by omega⟩ x))
        (Ideal.ofBits FTy.f32 1124073472#32) + Ideal.ofBits FTy.f32 897988541#32) * A6 (ix2 0 ⟨l.val % 128, by omega⟩) * Ideal.ofBits FTy.f32 1061997773#32 := by
  pointwise [RES]

end Cert.ReferenceIdeal.Da

end
-- ==== Proof.DaHead.lean ====
/- One head of the attention at one query: what the kernel's item computes is the reference's sum, where the arguments are real numbers. -/
module

public import proofs.«01_k».proof.Proof.DaMath
public import proofs.«01_k».proof.Proof.DaPoint
public import proofs.«01_k».proof.Proof.DaRefPoint

@[expose] public section

set_option maxRecDepth 16384

noncomputable section

namespace Cert.KernelIdeal.Da

open Idealize.ShloMosaic Idealize.ShloMosaic.TcCoe Idealize.SL.Sem
open Cert.KernelIdeal Cert.KernelIdeal.Gen
open Cert.DaMath
open Cert.ReferenceIdeal.Da (QR KR SR MR ER PR LR VR AR OR RES QR_at KR_at SR_at MR_at ER_at PR_at LR_at VR_at AR_at OR_at RES_at)

theorem bot_bits : Ideal.ofBits .f32 4286578688#32 = ⊥ := by
  simp [Ideal.ofBits, Ideal.ieee]

theorem eighth_bits : Ideal.ofBits .f32 1040187392#32 = ((1 / 8 : ℝ) : EReal) := by
  simp [Ideal.ofBits, Ideal.ieee, -EReal.coe_mul]; norm_num

theorem scale_named : Named.named (F := Ideal) (φ := .f32) κ "scale" 1043900987#32 = (((1 / 8) * (Real.log 2)⁻¹ : ℝ) : EReal) := rfl

theorem IsR.mul {x y : EReal} (hx : IsR x) (hy : IsR y) : IsR (x * y) := by
  obtain ⟨a, rfl⟩ := hx
  obtain ⟨b, rfl⟩ := hy
  exact ⟨a * b, EReal.coe_mul a b⟩

theorem IsR.sum {ι : Type*} [Fintype ι] {f : ι → EReal} (h : ∀ i, IsR (f i)) : IsR (∑ i, f i) := by
  choose g hg using h
  exact ⟨∑ i, g i, by rw [coe_sum]; exact Finset.sum_congr rfl fun i _ => hg i⟩

/-- The kernel's quotients and the reference's softmaxes, over scores that are reals. -/
theorem head_eq (V T₀ T₁ : Fin 2304 → EReal) (N₀ N₁ M₀ M₁ lam : EReal) (hV : ∀ k, IsR (V k)) (h₀ : ∀ k, IsR (T₀ k)) (h₁ : ∀ k, IsR (T₁ k))
    (n₀ : IsR N₀) (n₁ : IsR N₁) (m₀ : IsR M₀) (m₁ : IsR M₁) (hl : IsR lam) :
    Ideal.div (∑ k, V k * Ideal.exp2 (T₀ k * (((1 / 8) * (Real.log 2)⁻¹ : ℝ) : EReal) - N₀)) (∑ k, (1 : EReal) * Ideal.exp2 (T₀ k * (((1 / 8) * (Real.log 2)⁻¹ : ℝ) : EReal) - N₀))
        - lam * Ideal.div (∑ k, V k * Ideal.exp2 (T₁ k * (((1 / 8) * (Real.log 2)⁻¹ : ℝ) : EReal) - N₁)) (∑ k, (1 : EReal) * Ideal.exp2 (T₁ k * (((1 / 8) * (Real.log 2)⁻¹ : ℝ) : EReal) - N₁))
      = ∑ k, V k * (Ideal.div (Ideal.exp (T₀ k * ((1 / 8 : ℝ) : EReal) - M₀)) (∑ i, Ideal.exp (T₀ i * ((1 / 8 : ℝ) : EReal) - M₀))
          - lam * Ideal.div (Ideal.exp (T₁ k * ((1 / 8 : ℝ) : EReal) - M₁)) (∑ i, Ideal.exp (T₁ i * ((1 / 8 : ℝ) : EReal) - M₁))) := by
  choose v hv using hV
  choose s₀ hs₀ using h₀
  choose s₁ hs₁ using h₁
  obtain ⟨n₀, rfl⟩ := n₀
  obtain ⟨n₁, rfl⟩ := n₁
  obtain ⟨m₀, rfl⟩ := m₀
  obtain ⟨m₁, rfl⟩ := m₁
  obtain ⟨l, rfl⟩ := hl
  simp only [hv, hs₀, hs₁, ← EReal.coe_mul]
  exact attention v s₀ s₁ n₀ n₁ m₀ m₁ l

/-- The masked lanes of a product drop out: the first sub-head's lanes remain. -/
theorem lanes_first (k q : Fin 128 → EReal) : ∑ l, k l * Scalar.select (mask (ix2 0 l)) (q l) 0
    = ∑ d : Fin 32, ∑ p : Fin 2, q ⟨p.val * 64 + (0 : Fin 2).val * 32 + d.val, by omega⟩ * k ⟨p.val * 64 + (0 : Fin 2).val * 32 + d.val, by omega⟩ := by
  rw [sum_lanes]
  refine Finset.sum_congr rfl fun d _ => Finset.sum_congr rfl fun p _ => ?_
  rw [Fin.sum_univ_two, mask_lane, mask_lane, if_pos (by simp; omega), if_neg (by simp; omega), mul_comm]
  simp [Scalar.select]

/-- The masked lanes of a product drop out: the second sub-head's lanes remain. -/
theorem lanes_second (k q : Fin 128 → EReal) : ∑ l, k l * Scalar.select (mask (ix2 0 l)) 0 (q l)
    = ∑ d : Fin 32, ∑ p : Fin 2, q ⟨p.val * 64 + (1 : Fin 2).val * 32 + d.val, by omega⟩ * k ⟨p.val * 64 + (1 : Fin 2).val * 32 + d.val, by omega⟩ := by
  rw [sum_lanes]
  refine Finset.sum_congr rfl fun d _ => Finset.sum_congr rfl fun p _ => ?_
  rw [Fin.sum_univ_two, mask_lane, mask_lane, if_pos (by simp; omega), if_neg (by simp; omega), mul_comm (k _) (Scalar.select 0#1 _ _)]
  simp [Scalar.select]

variable (A0 : FVec Ideal S16x2048x3072 .bf16) (A1 : FVec Ideal S16x256x3072 .bf16) (A2 A3 A4 A5 : FVec Ideal S1x64 .f32) (A6 : FVec Ideal S1x128 .f32)

/-- A lane of a key. -/
def KV (b : Fin 16) (h : Fin 8) (k : Fin 2304) (l : Fin 128) : EReal :=
  if hn : k.val < 256 then A1 (ix3 b ⟨k.val, hn⟩ ⟨1024 + h.val * 128 + l.val, by omega⟩)
  else A0 (ix3 b ⟨k.val - 256, by omega⟩ ⟨1024 + h.val * 128 + l.val, by omega⟩)

/-- The product of a query with a key over a sub-head's lanes. -/
def dot (b : Fin 16) (h : Fin 8) (n : Fin 2048) (j : Fin 2) (k : Fin 2304) : EReal :=
  ∑ d : Fin 32, ∑ p : Fin 2, A0 (ix3 b n ⟨h.val * 128 + (p.val * 64 + j.val * 32 + d.val), by omega⟩) * KV A0 A1 b h k ⟨p.val * 64 + j.val * 32 + d.val, by omega⟩

theorem SR_dot (b : Fin 16) (h : Fin 8) (j : Fin 2) (n : Fin 2048) (k : Fin 2304) :
    SR A0 A1 (ix5 b h j n k) = dot A0 A1 b h n j k * ((1 / 8 : ℝ) : EReal) := by
  rw [SR_at, eighth_bits, dot]
  refine congrArg (· * _) (Finset.sum_congr rfl fun d _ => Finset.sum_congr rfl fun p _ => ?_)
  rw [QR_at, KR_at, KV]
  have e : h.val * 128 + p.val * 64 + j.val * 32 + d.val = h.val * 128 + (p.val * 64 + j.val * 32 + d.val) := by omega
  have e' : 1024 + h.val * 128 + p.val * 64 + j.val * 32 + d.val = 1024 + h.val * 128 + (p.val * 64 + j.val * 32 + d.val) := by omega
  simp only [e, e']

variable (f0 : ∀ i, IsR (A0 i)) (f1 : ∀ i, IsR (A1 i)) (f2 : ∀ i, IsR (A2 i)) (f3 : ∀ i, IsR (A3 i)) (f4 : ∀ i, IsR (A4 i)) (f5 : ∀ i, IsR (A5 i))

include f0 f1 in
theorem KV_isR (b : Fin 16) (h : Fin 8) (k : Fin 2304) (l : Fin 128) : IsR (KV A0 A1 b h k l) := by
  unfold KV
  split
  · exact f1 _
  · exact f0 _

include f0 f1 in
theorem dot_isR (b : Fin 16) (h : Fin 8) (n : Fin 2048) (j : Fin 2) (k : Fin 2304) : IsR (dot A0 A1 b h n j k) :=
  IsR.sum fun d => IsR.sum fun p => IsR.mul (f0 _) (KV_isR A0 A1 f0 f1 b h k _)

include f0 f1 in
theorem VR_isR (b : Fin 16) (k : Fin 2304) (h : Fin 8) (d : Fin 128) : IsR (VR A0 A1 (ix4 b k h d)) := by
  rw [VR_at]
  split
  · exact f1 _
  · exact f0 _

include f0 f1 in
theorem MR_isR (b : Fin 16) (h : Fin 8) (j : Fin 2) (n : Fin 2048) : IsR (MR A0 A1 (ix4 b h j n)) := by
  rw [MR_at, bot_bits, max_eq_right bot_le]
  refine isR_fold _ fun k => ?_
  rw [SR_dot]
  exact IsR.mul (dot_isR A0 A1 f0 f1 b h n j k) ⟨_, rfl⟩

theorem lam_bits : IsR (Ideal.ofBits .f32 1045220557#32) := by
  simp [Ideal.ofBits, Ideal.ieee, IsR, -EReal.coe_mul]

include f2 f3 f4 f5 in
theorem LR_isR : IsR (LR A2 A3 A4 A5 ix0) := by
  rw [LR_at]
  obtain ⟨a, ha⟩ := IsR.sum fun x => IsR.mul (f2 (ix2 0 x)) (f3 (ix2 0 x))
  obtain ⟨b, hb⟩ := IsR.sum fun x => IsR.mul (f4 (ix2 0 x)) (f5 (ix2 0 x))
  obtain ⟨l, hl⟩ := lam_bits
  rw [ha, hb, hl, Ideal.exp_coe, Ideal.exp_coe]
  exact ⟨Real.exp a - Real.exp b + l, by push_cast; rfl⟩

end Cert.KernelIdeal.Da

end
-- ==== Proof.DaValue.lean ====
/- The attention's result array: every block is the reference's, where the arguments are real numbers. -/
module

public import proofs.«01_k».proof.Proof.DaBlocks
public import proofs.«01_k».proof.Proof.DaScratch
public import proofs.«01_k».proof.Proof.DaHead

@[expose] public section

set_option maxRecDepth 16384

noncomputable section

namespace Cert.KernelIdeal.Da

open Idealize.ShloMosaic Idealize.ShloMosaic.TcCoe Idealize.SL.Sem
open Cert.KernelIdeal Cert.KernelIdeal.Gen
open Cert.DaMath
open Cert.ReferenceIdeal.Da (RES LR VR OR LR_at VR_at AR_at PR_at ER_at OR_at RES_at)

section item

variable (A0 : FVec Ideal S16x2048x3072 .bf16) (A1 : FVec Ideal S16x256x3072 .bf16) (A2 A3 A4 A5 : FVec Ideal S1x64 .f32) (A6 : FVec Ideal S1x128 .f32)

variable (f0 : ∀ i, IsR (A0 i)) (f1 : ∀ i, IsR (A1 i)) (f2 : ∀ i, IsR (A2 i)) (f3 : ∀ i, IsR (A3 i)) (f4 : ∀ i, IsR (A4 i)) (f5 : ∀ i, IsR (A5 i))

variable (b : Fin 16) (h : Fin 8) (n : Fin 2048) (lam : FVec Ideal S1x1 .f32) (q : Vec Ideal S1x256x128 .bf16) (K0 K1 K2 : Vec Ideal S1x768x128 .bf16) (vt : Vec Ideal S1x144x2304 .bf16)
  (r : Fin 256)
  (hq : ∀ l : Fin 128, q (ix3 0 r l) = A0 (ix3 b n ⟨h.val * 128 + l.val, by omega⟩))

include hq in
/-- A score of the kernel, in the column of the first sub-head. -/
theorem score_first (K : Vec Ideal S1x768x128 .bf16) (i : Fin 768) (k : Fin 2304) (hK : ∀ l, K (ix3 0 i l) = KV A0 A1 b h k l) :
    score q K ⟨r.val, by omega⟩ i = dot A0 A1 b h n 0 k * (((1 / 8) * (Real.log 2)⁻¹ : ℝ) : EReal) := by
  unfold score dot
  rw [scale_named]
  refine congrArg (· * _) (Eq.trans ?_ (lanes_first (KV A0 A1 b h k) fun l => A0 (ix3 b n ⟨h.val * 128 + l.val, by omega⟩)))
  refine Finset.sum_congr rfl fun l _ => ?_
  rw [hK, q2_at, dif_pos r.isLt, ← hq]

include hq in
/-- A score of the kernel, in the column of the second sub-head. -/
theorem score_second (K : Vec Ideal S1x768x128 .bf16) (i : Fin 768) (k : Fin 2304) (hK : ∀ l, K (ix3 0 i l) = KV A0 A1 b h k l) :
    score q K ⟨256 + r.val, by omega⟩ i = dot A0 A1 b h n 1 k * (((1 / 8) * (Real.log 2)⁻¹ : ℝ) : EReal) := by
  unfold score dot
  rw [scale_named]
  refine congrArg (· * _) (Eq.trans ?_ (lanes_second (KV A0 A1 b h k) fun l => A0 (ix3 b n ⟨h.val * 128 + l.val, by omega⟩)))
  refine Finset.sum_congr rfl fun l _ => ?_
  have e : (⟨256 + r.val - 256, by omega⟩ : Fin 256) = r := Fin.ext (by simp)
  rw [hK, q2_at, dif_neg (by simp), ← hq]
  simp only [e]

theorem MX_isR (c : Fin 512) (h0 : ∀ i, IsR (score q K0 c i)) (h1 : ∀ i, IsR (score q K1 c i)) (h2 : ∀ i, IsR (score q K2 c i)) : IsR (MX q K0 K1 K2 (ix2 0 c)) := by
  rw [MX_at, bot_bits]
  exact ((isR_fold _ h0).max (isR_fold _ h1)).max (isR_fold _ h2)

variable
  (hK0 : ∀ (i : Fin 768) l, K0 (ix3 0 i l) = KV A0 A1 b h ⟨i.val, by omega⟩ l)
  (hK1 : ∀ (i : Fin 768) l, K1 (ix3 0 i l) = KV A0 A1 b h ⟨768 + i.val, by omega⟩ l)
  (hK2 : ∀ (i : Fin 768) l, K2 (ix3 0 i l) = KV A0 A1 b h ⟨1536 + i.val, by omega⟩ l)
  (hV : ∀ (d : Fin 128) x, vt (ix3 0 ⟨d.val, by omega⟩ x) = VR A0 A1 (ix4 b x h d)) (hone : ∀ x, vt (ix3 0 128 x) = (1 : EReal))
  (hlam : lam (ix2 0 0) = LR A2 A3 A4 A5 ix0)

include f0 f1 f2 f3 f4 f5 hq hK0 hK1 hK2 hV hone hlam in
/-- What the kernel's item sums at a query and a lane is what the reference sums. -/
theorem o_eq (d : Fin 128) :
    k0_pay41 lam vt (join (EX (MX q K0 K1 K2) (SC q K0)) (EX (MX q K0 K1 K2) (SC q K1)) (EX (MX q K0 K1 K2) (SC q K2))) (ix2 d r)
      = OR A0 A1 A2 A3 A4 A5 (ix4 b n h d) := by
  have T0 : ∀ i, IsR (dot A0 A1 b h n 0 i * (((1 / 8) * (Real.log 2)⁻¹ : ℝ) : EReal)) := fun i => IsR.mul (dot_isR A0 A1 f0 f1 b h n 0 i) ⟨_, rfl⟩
  have T1 : ∀ i, IsR (dot A0 A1 b h n 1 i * (((1 / 8) * (Real.log 2)⁻¹ : ℝ) : EReal)) := fun i => IsR.mul (dot_isR A0 A1 f0 f1 b h n 1 i) ⟨_, rfl⟩
  have a0 := fun i => score_first A0 A1 b h n q r hq K0 i _ (hK0 i)
  have a1 := fun i => score_first A0 A1 b h n q r hq K1 i _ (hK1 i)
  have a2 := fun i => score_first A0 A1 b h n q r hq K2 i _ (hK2 i)
  have b0 := fun i => score_second A0 A1 b h n q r hq K0 i _ (hK0 i)
  have b1 := fun i => score_second A0 A1 b h n q r hq K1 i _ (hK1 i)
  have b2 := fun i => score_second A0 A1 b h n q r hq K2 i _ (hK2 i)
  have N0 := MX_isR q K0 K1 K2 _ (fun i => a0 i ▸ T0 _) (fun i => a1 i ▸ T0 _) (fun i => a2 i ▸ T0 _)
  have N1 := MX_isR q K0 K1 K2 _ (fun i => b0 i ▸ T1 _) (fun i => b1 i ▸ T1 _) (fun i => b2 i ▸ T1 _)
  have J0 := fun x => join_at q K0 K1 K2 (fun k => dot A0 A1 b h n 0 k * (((1 / 8) * (Real.log 2)⁻¹ : ℝ) : EReal)) x _ a0 a1 a2
  have J1 := fun x => join_at q K0 K1 K2 (fun k => dot A0 A1 b h n 1 k * (((1 / 8) * (Real.log 2)⁻¹ : ℝ) : EReal)) x _ b0 b1 b2
  rw [o_at, OR_at, hlam]
  simp only [J0, J1, hV, hone, AR_at, PR_at, ER_at, SR_dot]
  exact head_eq _ _ _ _ _ _ _ _ (fun k => VR_isR A0 A1 f0 f1 b k h d) (dot_isR A0 A1 f0 f1 b h n 0) (dot_isR A0 A1 f0 f1 b h n 1) N0 N1
    (MR_isR A0 A1 f0 f1 b h 0 n) (MR_isR A0 A1 f0 f1 b h 1 n) (LR_isR A2 A3 A4 A5 f2 f3 f4 f5)

include f0 f1 f2 f3 f4 f5 hq hK0 hK1 hK2 hV hone hlam in
/-- What the kernel's item stores at a query and a lane is the reference's result. -/
theorem item_eq (g : Vec Ideal S128x1 .f32) (hg : ∀ l : Fin 128, g (ix2 l 0) = A6 (ix2 0 l)) (d : Fin 128) (l : Fin 1024) (hl : l.val = h.val * 128 + d.val) :
    ITEM lam g q K0 K1 K2 vt (ix3 0 r d) = RES A0 A1 A2 A3 A4 A5 A6 (ix3 b n l) := by
  have e1 : (⟨l.val / 128, by omega⟩ : Fin 8) = h := Fin.ext (by simp only []; omega)
  have e2 : (⟨l.val % 128, by omega⟩ : Fin 128) = d := Fin.ext (by simp only []; omega)
  have O := o_eq A0 A1 A2 A3 A4 A5 f0 f1 f2 f3 f4 f5 b h n lam q K0 K1 K2 vt r hq hK0 hK1 hK2 hV hone hlam
  unfold ITEM
  rw [OUT_at, RES_at]
  simp only [O, hg, e1, e2]

end item

section
variable {F : FTy → Type} [FloatOps F] [Named F]

/-- What a point leaves in its result block, item by item. -/
theorem out_eq (c : Dev nD) (i : grid0.Coords) (arg2 : Memref sig .tc .vmem S1x2048x256 .bf16) (harg2 : arg2.IsWhole) (arg3 : Memref sig .tc .vmem S1x256x256 .bf16) (harg3 : arg3.IsWhole) (arg4 : Memref sig .tc .vmem S1x2048x256 .bf16) (harg4 : arg4.IsWhole) (arg5 : Memref sig .tc .vmem S1x256x256 .bf16) (harg5 : arg5.IsWhole) (arg6 : Memref sig .tc .vmem S1x2048x256 .bf16) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S128x1 .f32) (harg11 : arg11.IsWhole) (arg12 : Memref sig .tc .vmem S1x2048x256 .bf16) (harg12 : arg12.IsWhole) (arg13 : Memref sig .tc .vmem S2x2304x128 .bf16) (harg13 : arg13.IsWhole) (arg14 : Memref sig .tc .vmem S2x144x2304 .bf16) (harg14 : arg14.IsWhole) (arg15 : Memref sig .tc .vmem S2x2304x512 .f32) (harg15 : arg15.IsWhole) (arg16 : Memref sig .tc .vmem S2x2304x512 .bf16) (harg16 : arg16.IsWhole)
  (x0 : Vec F S1x2048x256 .bf16) (x1 : Vec F S1x256x256 .bf16) (x2 : Vec F S1x2048x256 .bf16) (x3 : Vec F S1x256x256 .bf16) (x4 : Vec F S1x2048x256 .bf16) (x5 : Vec F S1x64 .f32) (x6 : Vec F S1x64 .f32) (x7 : Vec F S1x64 .f32) (x8 : Vec F S1x64 .f32) (x9 : Vec F S128x1 .f32) :
    out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 = BLK (kernelRun0_A.sl.r c arg7 harg7 arg8 harg8 arg9 harg9 arg10 harg10 x5 x6 x7 x8)
      (arg11.view.readAt (Elt F) (Rect.unit (s := S128x1) ![0, 0] S128x1.size inb_S128x1_S128x1_0_0).toLoadRect (harg11.unread x9))
      (Q arg2 (harg2.unread x0)) (KK arg13 (kernelRun0_A.sl.HS0_4 c arg3 harg3 arg4 harg4 x1 x2))
      (VV arg14 (kernelRun0_A.sl.HS1_6 c arg5 harg5 arg6 harg6 x3 x4)) := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9)]
  funext y
  exact View.canon_apply_of_pieces _ _ (pieces c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9).mem y (cover0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 y)

end

theorem lam_read (c : Dev nD) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (x5 : Vec Ideal S1x64 .f32) (x6 : Vec Ideal S1x64 .f32) (x7 : Vec Ideal S1x64 .f32) (x8 : Vec Ideal S1x64 .f32) :
    kernelRun0_A.sl.r c arg7 harg7 arg8 harg8 arg9 harg9 arg10 harg10 x5 x6 x7 x8 (ix2 0 0)
      = Ideal.exp (∑ l : Fin 64, x5 (ix2 0 l) * x6 (ix2 0 l)) - Ideal.exp (∑ l : Fin 64, x7 (ix2 0 l) * x8 (ix2 0 l)) + Ideal.ofBits FTy.f32 1045220557#32 := by
  refine (lam_at _ _ _ _).trans ?_
  have e5 : ∀ (m : Memref sig .tc .vmem S1x64 .f32) (h : m.IsWhole) (x : Vec Ideal S1x64 .f32) (l : Fin 64),
      m.view.readAt (Elt Ideal) (Rect.unit (s := S1x64) ![0, 0] S1x64.size inb_S1x64_S1x64_0_0).toLoadRect (h.unread x) (ix2 0 l) = x (ix2 0 l) := by
    intro m h x l
    refine (load_at h x _ _).trans (congrArg _ ?_)
    funext a
    apply Fin.ext
    fin_cases a <;> simp [ix2]
  simp only [e5]

theorem g_read (arg11 : Memref sig .tc .vmem S128x1 .f32) (harg11 : arg11.IsWhole) (x9 : Vec Ideal S128x1 .f32) (l : Fin 128) :
    arg11.view.readAt (Elt Ideal) (Rect.unit (s := S128x1) ![0, 0] S128x1.size inb_S128x1_S128x1_0_0).toLoadRect (harg11.unread x9) (ix2 l 0) = x9 (ix2 l 0) := by
  refine (load_at harg11 x9 _ _).trans (congrArg _ ?_)
  funext a
  apply Fin.ext
  fin_cases a <;> simp [ix2]

variable (m : (ℓ : Loc nD τ sig) → Buf (Elt Ideal) ℓ) (c : Dev nD)

/-- The reference's result over the call's arguments. -/
abbrev RESm : FVec Ideal S16x2048x1024 .bf16 :=
  RES (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6))

/-- The keys that a point's two windows hold, at a head and a lane. -/
theorem key_eq (t : Fin cfg0.N) (hh : Fin 2) (k : Fin 2304) (l : Fin 128) :
    KG (iblk m c 1 t) (iblk m c 2 t) (ix3 hh k l) = KV (m ((c.tc : Thread nD τ).loc main_arg0)) (m ((c.tc : Thread nD τ).loc main_arg1))
      ⟨t.val / 4, by have := t_lt t; omega⟩ ⟨2 * (t.val % 4) + hh.val, by omega⟩ k l := by
  unfold KG KV
  by_cases h : k.val < 256
  · rw [dif_pos (show ((ix3 hh k l : S2x2304x128.Idx) 1 : ℕ) < 256 from h), dif_pos h]
    refine (kc_blk m c t _ _).trans (congrArg _ (congrArg _ (Fin.ext ?_)))
    show (4 + t.val % 4) * 256 + (128 * hh.val + l.val) = 1024 + (2 * (t.val % 4) + hh.val) * 128 + l.val
    omega
  · rw [dif_neg (show ¬ ((ix3 hh k l : S2x2304x128.Idx) 1 : ℕ) < 256 from h), dif_neg h]
    refine (k_blk m c t _ _).trans (congrArg _ (congrArg _ (Fin.ext ?_)))
    show (4 + t.val % 4) * 256 + (128 * hh.val + l.val) = 1024 + (2 * (t.val % 4) + hh.val) * 128 + l.val
    omega

/-- The values that a point's two windows hold, at a head and a lane. -/
theorem value_eq (t : Fin cfg0.N) (hh : Fin 2) (k : Fin 2304) (d : Fin 128) :
    VG (iblk m c 3 t) (iblk m c 4 t) (ix3 hh ⟨d.val, by omega⟩ k) = VR (m ((c.tc : Thread nD τ).loc main_arg0)) (m ((c.tc : Thread nD τ).loc main_arg1))
      (ix4 ⟨t.val / 4, by have := t_lt t; omega⟩ k ⟨2 * (t.val % 4) + hh.val, by omega⟩ d) := by
  rw [VR_at]
  unfold VG
  rw [dif_pos (show ((ix3 hh (⟨d.val, by omega⟩ : Fin 144) k : S2x144x2304.Idx) 1 : ℕ) < 128 from d.isLt)]
  by_cases h : k.val < 256
  · rw [dif_pos (show ((ix3 hh (⟨d.val, by omega⟩ : Fin 144) k : S2x144x2304.Idx) 2 : ℕ) < 256 from h), dif_pos h]
    refine (vc_blk m c t _ _).trans (congrArg _ (congrArg _ (Fin.ext ?_)))
    show (8 + t.val % 4) * 256 + (128 * hh.val + d.val) = 2048 + ((2 * (t.val % 4) + hh.val) * 128 + d.val)
    omega
  · rw [dif_neg (show ¬ ((ix3 hh (⟨d.val, by omega⟩ : Fin 144) k : S2x144x2304.Idx) 2 : ℕ) < 256 from h), dif_neg h]
    refine (v_blk m c t _ _).trans (congrArg _ (congrArg _ (Fin.ext ?_)))
    show (8 + t.val % 4) * 256 + (128 * hh.val + d.val) = 2048 + ((2 * (t.val % 4) + hh.val) * 128 + d.val)
    omega

variable (f0 : ∀ i, IsR (m ((c.tc : Thread nD τ).loc main_arg0) i)) (f1 : ∀ i, IsR (m ((c.tc : Thread nD τ).loc main_arg1) i))
  (f2 : ∀ i, IsR (m ((c.tc : Thread nD τ).loc main_arg2) i)) (f3 : ∀ i, IsR (m ((c.tc : Thread nD τ).loc main_arg3) i))
  (f4 : ∀ i, IsR (m ((c.tc : Thread nD τ).loc main_arg4) i)) (f5 : ∀ i, IsR (m ((c.tc : Thread nD τ).loc main_arg5) i))

include f0 f1 f2 f3 f4 f5 in
/-- A point's result block, at a row and a lane. -/
theorem block_eq (t : Fin cfg0.N) (n : Fin 2048) (l : Fin 256) :
    outsAt0 m c t (ix3 0 n l) = RESm m c (ix3 ⟨t.val / 4, by have := t_lt t; omega⟩ n ⟨t.val % 4 * 256 + l.val, by omega⟩) := by
  unfold outsAt0
  rw [out_eq]
  have e : (⟨256 * (n.val / 256) + n.val % 256, by omega⟩ : Fin 2048) = n := Fin.ext (by simp only []; omega)
  refine item_eq _ _ _ _ _ _ _ f0 f1 f2 f3 f4 f5 ⟨t.val / 4, by have := t_lt t; omega⟩ ⟨2 * (t.val % 4) + l.val / 128, by omega⟩ n _ _ _ _ _ _ ⟨n.val % 256, by omega⟩
    ?_ ?_ ?_ ?_ ?_ ?_ ?_ _ ?_ ⟨l.val % 128, by omega⟩ _ ?_
  · intro x
    refine (Q_at _ _ _ ⟨l.val / 128, by omega⟩ ⟨n.val / 256, by omega⟩ _ _).trans ((q_blk m c t _ _).trans ?_)
    refine congrArg _ (congrArg₂ (ix3 _) e (Fin.ext ?_))
    show t.val % 4 * 256 + (128 * (l.val / 128) + x.val) = (2 * (t.val % 4) + l.val / 128) * 128 + x.val
    omega
  · intro i x
    refine (KK_at _ _ _ _ _ _ _ _ ⟨l.val / 128, by omega⟩ 0 i x).trans ((key_eq m c t _ _ _).trans (congrArg (fun k => KV _ _ _ _ k x) (Fin.ext ?_)))
    show 768 * 0 + i.val = i.val
    omega
  · intro i x
    exact (KK_at _ _ _ _ _ _ _ _ ⟨l.val / 128, by omega⟩ 1 i x).trans (key_eq m c t _ _ _)
  · intro i x
    exact (KK_at _ _ _ _ _ _ _ _ ⟨l.val / 128, by omega⟩ 2 i x).trans (key_eq m c t _ _ _)
  · intro d x
    exact (VV_at _ _ _ _ _ _ _ _ ⟨l.val / 128, by omega⟩ _ x).trans (value_eq m c t _ _ _)
  · intro x
    exact (VV_at _ _ _ _ _ _ _ _ ⟨l.val / 128, by omega⟩ 128 x).trans (VG_one _ _ _ (by simp)).symm
  · refine (lam_read _ _ _ _ _ _ _ _ _ _ _ _ _).trans ?_
    rw [LR_at]
    simp only [l5_blk, l6_blk, l7_blk, l8_blk]
  · intro x
    exact (g_read _ _ _ x).trans (g_blk m c t x)
  · show t.val % 4 * 256 + l.val = (2 * (t.val % 4) + l.val / 128) * 128 + l.val % 128
    omega

include f0 f1 f2 f3 f4 f5 in
/-- The result array. -/
theorem final10 : (dats m 0 c).arrAt 10 (cfgs 0).N = RESm m c := by
  refine (dats m 0 c).arrAt_eq_of_covers 10 _ (by decide +kernel) fun t _ y => ?_
  blk_simp
  rw [after0_10]
  have hy : y = (ix3 0 (y 1) (y 2) : S1x2048x256.Idx) := by
    funext a
    fin_cases a
    · exact Subsingleton.elim (α := Fin 1) _ _
    · rfl
    · rfl
  rw [hy]
  refine (block_eq m c f0 f1 f2 f3 f4 f5 t (y 1) (y 2)).trans ?_
  blk_point [idx t]

end Cert.KernelIdeal.Da

end
-- ==== Proof.DaClaim.lean ====
/- The attention's call: over arguments that hold no infinity, kernel and reference compute the same result over the extended reals. -/
module

public import proofs.«01_k».proof.Defs
public import proofs.«01_k».proof.Proof.DaValue
public import proofs.«01_k».proof.Proof.HostFrames
public import Idealize.ShloMosaic.Lib.Claim
public import Idealize.ShloMosaic.Lib.ReduceAll

@[expose] public section

set_option maxRecDepth 16384

noncomputable section

namespace Cert.KernelIdeal.Da

open Idealize.ShloMosaic Idealize.SL.Sem
open Cert.DaMath

/-- The side conditions of the precondition's own program. -/
theorem finite_facts : Cert.Pre_finite.Facts where
  bitsLt_bf16_f32 := by decide
  bcast_S_S16x2048x3072 := by decide
  reducesTo_S16x2048x3072_S_d0_1_2 := by decide
  h_S_ := by decide
  bcast_S_S16x256x3072 := by decide
  reducesTo_S16x256x3072_S_d0_1_2 := by decide
  bcast_S_S1x64 := by decide
  reducesTo_S1x64_S_d0_1 := by decide

instance : Cert.Pre_finite.Facts := finite_facts

/-- The word of plus infinity. -/
theorem top_bits : Ideal.ofBits .f32 0x7F800000#32 = ⊤ := by
  simp [Ideal.ofBits, Ideal.ieee]

/-- A value whose absolute value is below plus infinity is a real. -/
theorem isR_of_abs {x : EReal} (h : FloatOps.cmpf (F := Ideal) (φ := .f32) .olt (FloatOps.absf x) (Ideal.ofBits .f32 0x7F800000#32) = 1#1) : IsR x := by
  rw [top_bits] at h
  induction x with
  | bot => exact absurd (a := Ideal.cmp .olt (max ⊥ (-⊥)) ⊤ = 1#1) h (by simp [Ideal.cmp])
  | top => exact absurd (a := Ideal.cmp .olt (max ⊤ (-⊤)) ⊤ = 1#1) h (by simp [Ideal.cmp])
  | coe r => exact ⟨r, rfl⟩

/-- Where a conjunction of two bits is one, both are. -/
theorem and_one {a b : BitVec 1} (h : IntOp.andi a b = 1#1) : a = 1#1 ∧ b = 1#1 := by
  revert a b
  decide

/-- The precondition, read: every argument but the norm's weights holds reals only. -/
theorem finite_read (A0 : FVec Ideal Cert.Pre_finite.S16x2048x3072 .bf16) (A1 : FVec Ideal Cert.Pre_finite.S16x256x3072 .bf16)
    (A2 A3 A4 A5 : FVec Ideal Cert.Pre_finite.S1x64 .f32) (A6 : FVec Ideal Cert.Pre_finite.S1x128 .f32)
    (h : Cert.Pre_finite.fn (F := Ideal) A0 A1 A2 A3 A4 A5 A6 = fun _ => 1#1) :
    (∀ i, IsR (A0 i)) ∧ (∀ i, IsR (A1 i)) ∧ (∀ i, IsR (A2 i)) ∧ (∀ i, IsR (A3 i)) ∧ (∀ i, IsR (A4 i)) ∧ (∀ i, IsR (A5 i)) := by
  have h := congrFun h ix0
  dsimp only [Cert.Pre_finite.fn, Cert.Pre_finite.fn_part1] at h
  obtain ⟨h, h5⟩ := and_one h
  obtain ⟨h, h4⟩ := and_one h
  obtain ⟨h, h3⟩ := and_one h
  obtain ⟨h, h2⟩ := and_one h
  obtain ⟨h, h1⟩ := and_one h
  obtain ⟨h, h0⟩ := and_one h
  haveI : Subsingleton Cert.Pre_finite.S_.Idx := ⟨fun a b => funext fun i => i.elim0⟩
  exact ⟨fun i => isR_of_abs (Host.reduce_andi_all _ _ _ _ _ h0 i), fun i => isR_of_abs (Host.reduce_andi_all _ _ _ _ _ h1 i),
    fun i => isR_of_abs (Host.reduce_andi_all _ _ _ _ _ h2 i), fun i => isR_of_abs (Host.reduce_andi_all _ _ _ _ _ h3 i),
    fun i => isR_of_abs (Host.reduce_andi_all _ _ _ _ _ h4 i), fun i => isR_of_abs (Host.reduce_andi_all _ _ _ _ _ h5 i)⟩

/-- The kernel's frame, under the precondition. -/
theorem frame_finite : Cert.quiescent_KernelIdeal_pre_finite := fun m g _ => Cert.KernelIdeal.Gen.frame m g

/-- The reference's frame, under the precondition. -/
theorem frame_reference_finite : Cert.quiescent_ReferenceIdeal_pre_finite := fun m g _ => Cert.Proof.frame_reference m g trivial

set_option maxHeartbeats 1600000 in
/-- From memories that agree on the arguments and hold no infinity there, the kernel's array ends at the reference's. -/
theorem algebraic : Cert.algebraic_KernelIdeal_ReferenceIdeal_pre_finite := by
  pair_intro
  · run_from Cert.KernelIdeal.Value.run_blocks m g
  · run_from Cert.ReferenceIdeal.Value.run m' g'
    obtain ⟨f0, f1, f2, f3, f4, f5⟩ := finite_read _ _ _ _ _ _ _ (hpre c)
    obtain ⟨e0, e1, e2, e3, e4, e5, e6⟩ := hagree c
    refine (Cert.ReferenceIdeal.Da.res_eq m' c).trans ?_
    rw [e0, e1, e2, e3, e4, e5, e6]
    exact (final10 m c f0 f1 f2 f3 f4 f5).symm

end Cert.KernelIdeal.Da

end
-- ==== Proof.GmBlocks.lean ====
/- What each window of the gated MLP's call stages at a point: a quarter of one batch's rows. -/
module

public import proofs.«01_k».proof.Proof.Gen.Kernel3Ideal.Frame
public import Idealize.ShloMosaic.Lib.Pipeline.ValueKit
public import Idealize.ShloMosaic.Lib.StableHlo.ReadAt

@[expose] public section

set_option maxRecDepth 16384

noncomputable section

namespace Cert.Kernel3Ideal.Gm

open Idealize.ShloMosaic Idealize.ShloMosaic.TcCoe Idealize.SL.Sem
open Cert.Kernel3Ideal Cert.Kernel3Ideal.Gen

variable (m : (ℓ : Loc nD τ sig) → Buf (Elt Ideal) ℓ) (c : Dev nD) (t : Fin cfg0.N)

/-- Which block each window stages at point t: batch t / 4, quarter t % 4. -/
theorem idx : ∀ t : Fin cfg0.N, win0_0.index t = ![t.val / 4, t.val % 4, 0] ∧ win0_1.index t = ![0, 0] ∧ win0_2.index t = ![t.val / 4, 0, 0]
    ∧ win0_3.index t = ![t.val / 4, 0, 0] ∧ win0_4.index t = ![0, 0] ∧ win0_5.index t = ![0, 0] ∧ win0_6.index t = ![0, 0, 0] ∧ win0_7.index t = ![0, 0]
    ∧ win0_8.index t = ![0, 0] ∧ win0_9.index t = ![t.val / 4, 0, 0] ∧ win0_10.index t = ![0, 0] ∧ win0_11.index t = ![t.val / 4, 0, 0]
    ∧ win0_12.index t = ![t.val / 4, 0, 0] ∧ win0_13.index t = ![0, 0] ∧ win0_14.index t = ![t.val / 4, t.val % 4, 0] ∧ win0_15.index t = ![t.val / 4, t.val % 4, 0]
    ∧ win0_16.index t = ![t.val / 4, 0, t.val % 4] :=
  (by decide +kernel : ∀ t : Fin grid0.N, _)

theorem t_lt : t.val < 64 := t.isLt

theorem x_blk (n : Fin 512) (l : Fin 1024) : iblk m c 0 t (ix3 0 n l)
    = m ((c.tc : Thread nD τ).loc main_arg0) (ix3 ⟨t.val / 4, by have := t_lt t; omega⟩ ⟨t.val % 4 * 512 + n.val, by omega⟩ l) := by
  blk_point [iblk, V, idx t]

theorem g_host (l : Fin 1024) : V m c main_v0 (ix2 0 l) = m ((c.tc : Thread nD τ).loc main_arg1) (ix1 l) := by
  unfold V
  after_reads_at

theorem g_blk (l : Fin 1024) : iblk m c 1 t (ix2 0 l)
    = m ((c.tc : Thread nD τ).loc main_arg1) (ix1 l) := by
  rw [← g_host m c]
  blk_point [iblk, idx t]

theorem sh_blk (l : Fin 1024) : iblk m c 2 t (ix3 0 0 l)
    = m ((c.tc : Thread nD τ).loc main_arg2) (ix3 ⟨t.val / 4, by have := t_lt t; omega⟩ 0 l) := by
  blk_point [iblk, V, idx t]

theorem sc_blk (l : Fin 1024) : iblk m c 3 t (ix3 0 0 l)
    = m ((c.tc : Thread nD τ).loc main_arg3) (ix3 ⟨t.val / 4, by have := t_lt t; omega⟩ 0 l) := by
  blk_point [iblk, V, idx t]

theorem wi_host (x : Fin 1024) (f : Fin 4096) : V m c main_v2 (ix2 x f) = m ((c.tc : Thread nD τ).loc main_arg4) (ix3 0 x f) := by
  unfold V
  after_reads_at

theorem wi_blk (x : Fin 1024) (f : Fin 4096) : iblk m c 4 t (ix2 x f)
    = m ((c.tc : Thread nD τ).loc main_arg4) (ix3 0 x f) := by
  rw [← wi_host m c]
  blk_point [iblk, idx t]

theorem vg_host (l : Fin 2048) : V m c main_v4 (ix2 0 l) = m ((c.tc : Thread nD τ).loc main_arg5) (ix2 0 l) := by
  unfold V
  after_reads_at

theorem vg_blk (l : Fin 2048) : iblk m c 5 t (ix2 0 l)
    = m ((c.tc : Thread nD τ).loc main_arg5) (ix2 0 l) := by
  rw [← vg_host m c]
  blk_point [iblk, idx t]

theorem ws_host (g : Fin 8) (p q : Fin 128) : V m c main_v6 (ix3 g p q) = m ((c.tc : Thread nD τ).loc main_arg6) (ix4 0 g p q) := by
  unfold V
  after_reads_at

theorem ws_blk (g : Fin 8) (p q : Fin 128) : iblk m c 6 t (ix3 g p q)
    = m ((c.tc : Thread nD τ).loc main_arg6) (ix4 0 g p q) := by
  rw [← ws_host m c]
  blk_point [iblk, idx t]

theorem bs_host (p : Fin 128) (g : Fin 8) : V m c main_v8 (ix2 p g) = m ((c.tc : Thread nD τ).loc main_arg7) (ix3 0 g p) := by
  unfold V
  after_reads_at

theorem bs_blk (p : Fin 128) (g : Fin 8) : iblk m c 7 t (ix2 p g)
    = m ((c.tc : Thread nD τ).loc main_arg7) (ix3 0 g p) := by
  rw [← bs_host m c]
  blk_point [iblk, idx t]

theorem wo_host (f : Fin 2048) (l : Fin 1024) : V m c main_v10 (ix2 f l) = m ((c.tc : Thread nD τ).loc main_arg8) (ix3 0 f l) := by
  unfold V
  after_reads_at

theorem wo_blk (f : Fin 2048) (l : Fin 1024) : iblk m c 8 t (ix2 f l)
    = m ((c.tc : Thread nD τ).loc main_arg8) (ix3 0 f l) := by
  rw [← wo_host m c]
  blk_point [iblk, idx t]

theorem ga_blk (l : Fin 1024) : iblk m c 9 t (ix3 0 0 l)
    = m ((c.tc : Thread nD τ).loc main_arg9) (ix3 ⟨t.val / 4, by have := t_lt t; omega⟩ 0 l) := by
  blk_point [iblk, V, idx t]

theorem mg_host (l : Fin 1024) : V m c main_v11 (ix2 0 l) = m ((c.tc : Thread nD τ).loc main_arg10) (ix1 l) := by
  unfold V
  after_reads_at

theorem mg_blk (l : Fin 1024) : iblk m c 10 t (ix2 0 l)
    = m ((c.tc : Thread nD τ).loc main_arg10) (ix1 l) := by
  rw [← mg_host m c]
  blk_point [iblk, idx t]

theorem sh2_blk (l : Fin 1024) : iblk m c 11 t (ix3 0 0 l)
    = m ((c.tc : Thread nD τ).loc main_arg11) (ix3 ⟨t.val / 4, by have := t_lt t; omega⟩ 0 l) := by
  blk_point [iblk, V, idx t]

theorem sc2_blk (l : Fin 1024) : iblk m c 12 t (ix3 0 0 l)
    = m ((c.tc : Thread nD τ).loc main_arg12) (ix3 ⟨t.val / 4, by have := t_lt t; omega⟩ 0 l) := by
  blk_point [iblk, V, idx t]

/-- The router's weights. -/
def RW : FVec Ideal S1024x16 .f32 := m ((c.tc : Thread nD τ).loc main_arg13)

theorem hi_host (x : Fin 1024) (e : Fin 16) : V m c main_v17 (ix2 x ⟨e.val, by omega⟩) = RW m c (ix2 x e) := by
  unfold V
  after_reads_at
  exact dif_pos (by omega)

theorem hi_blk (x : Fin 1024) (e : Fin 16) : iblk m c 13 t (ix2 x ⟨e.val, by omega⟩)
    = RW m c (ix2 x e) := by
  rw [← hi_host m c]
  blk_point [iblk, idx t]

theorem lo_host (x : Fin 1024) (e : Fin 16) : V m c main_v17 (ix2 x ⟨128 + e.val, by omega⟩) = RW m c (ix2 x e) - RW m c (ix2 x e) := by
  unfold V
  after_reads_at
  rfl

theorem lo_blk (x : Fin 1024) (e : Fin 16) : iblk m c 13 t (ix2 x ⟨128 + e.val, by omega⟩)
    = RW m c (ix2 x e) - RW m c (ix2 x e) := by
  rw [← lo_host m c]
  blk_point [iblk, idx t]

end Cert.Kernel3Ideal.Gm

end
-- ==== Proof.GmPoint.lean ====
/- The gated MLP's block over the extended reals, one index at a time. -/
module

public import proofs.«01_k».proof.Proof.Gen.Kernel3Ideal.Frame
public import Idealize.ShloMosaic.Lib.Pipeline.ValueKit

@[expose] public section

set_option maxRecDepth 16384

noncomputable section

namespace Cert.Kernel3Ideal.Gm

open Idealize.ShloMosaic Idealize.ShloMosaic.TcCoe Idealize.SL.Sem
open Cert.Kernel3Ideal Cert.Kernel3Ideal.Gen

theorem z_at (x0 : Vec Ideal S1x512x1024 .f32) (g : Vec Ideal S1x1024 .f32) (sc sh : Vec Ideal S1x1x1024 .f32) (W : Vec Ideal S1024x4096 .bf16) (r : Fin 512) (f : Fin 4096) :
    k0_pay6 x0 g sc sh W (ix2 r f) = ∑ x, (x0 (ix3 0 r x) * Ideal.rsqrt (Ideal.div (∑ x, x0 (ix3 0 r x) * x0 (ix3 0 r x)) (Ideal.ofBits FTy.f32 0x44800000#32) + Ideal.ofBits FTy.f32 0x358637BD#32)
      * g (ix2 0 x) * (1 + sc (ix3 0 0 x)) + sh (ix3 0 0 x)) * W (ix2 x f) := by
  pointwise [k0_pay6, k0_pay5]

theorem t_at (x0 : Vec Ideal S1x512x1024 .f32) (g : Vec Ideal S1x1024 .f32) (sc sh : Vec Ideal S1x1x1024 .f32) (W : Vec Ideal S1024x4096 .bf16) (r : Fin 512) (f : Fin 4096) :
    k0_pay7 x0 g sc sh W (ix2 r f) = Ideal.tanh (Ideal.ofBits FTy.f32 0x3F4C422A#32 * (k0_pay6 x0 g sc sh W (ix2 r f) + Ideal.ofBits FTy.f32 0x3D372713#32
      * (k0_pay6 x0 g sc sh W (ix2 r f) * (k0_pay6 x0 g sc sh W (ix2 r f) * k0_pay6 x0 g sc sh W (ix2 r f))))) := by
  pointwise [k0_pay7]

theorem ge_at (z t : FVec Ideal S512x4096 .f32) (r : Fin 512) (f : Fin 4096) :
    k0_pay8 z t (ix2 r f) = z (ix2 r f) * (Ideal.ofBits FTy.f32 0x3F000000#32 * (1 + t (ix2 r f))) := by
  pointwise [k0_pay8]

theorem u_at (z t : FVec Ideal S512x4096 .f32) (r : Fin 512) (f : Fin 2048) : k0_pay9 z t (ix2 r f) = k0_pay8 z t (ix2 r ⟨f.val, by omega⟩) := by
  pointwise [k0_pay9]

theorem v_at (z t : FVec Ideal S512x4096 .f32) (vg : Vec Ideal S1x2048 .f32) (r : Fin 512) (l : Fin 2048) :
    k0_pay10 z t vg (ix2 r l) = k0_pay8 z t (ix2 r ⟨2048 + l.val, by omega⟩)
      * Ideal.rsqrt (Ideal.div (∑ x : Fin 2048, k0_pay8 z t (ix2 r ⟨2048 + x.val, by omega⟩) * k0_pay8 z t (ix2 r ⟨2048 + x.val, by omega⟩)) (Ideal.ofBits FTy.f32 0x45000000#32) + Ideal.ofBits FTy.f32 0x358637BD#32)
      * vg (ix2 0 l) := by
  pointwise [k0_pay10]

theorem hs (c : Fin 4) (g : Fin 8) : S512x2048.Slices ![128 * c.val, 256 * g.val] S128x256 := by
  revert c g; decide +kernel

theorem hw (g : Fin 8) : ∀ a, (![g.val, 0, 0] : Fin 3 → Nat) a + S1x128x128.size a ≤ S8x128x128.size a := by
  revert g; decide +kernel

theorem hb (g : Fin 8) : ∀ a, (![0, g.val] : Fin 2 → Nat) a + S128x1.size a ≤ S128x8.size a := by
  revert g; decide +kernel

/-- Rows mixed by one matrix, with their bias. -/
def mixed (v : FVec Ideal S128x256 .bf16) (w : Vec Ideal S1x128x128 .bf16) (b : Vec Ideal S128x1 .f32) : FVec Ideal S128x256 .f32 :=
  addf (matmul (φ₁ := .bf16) (φ₂ := .bf16) dot_S128x128_S128x256_S128x256_1_0_0_1_n_n none (shapeCast S128x128 w shapeCasts_S1x128x128_S128x128)
      v (constant S128x256 .f32 0x00000000#32))
    (broadcastTo S128x256 (shapeCast S128x1 b shapeCasts_S128x1_S128x1) broadcasts_S128x1_S128x256)

theorem mixed_at (v : FVec Ideal S128x256 .bf16) (w : Vec Ideal S1x128x128 .bf16) (b : Vec Ideal S128x1 .f32) (p : Fin 128) (e : Fin 256) :
    mixed v w b (ix2 p e) = (∑ q : Fin 128, w (ix3 0 p q) * v (ix2 q e)) + b (ix2 p 0) := by
  pointwise [mixed]

theorem slice_at (v : FVec Ideal S512x2048 .bf16) (c : Fin 4) (g : Fin 8) (q : Fin 128) (e : Fin 256) :
    extractStridedSlice S128x256 ![128 * c.val, 256 * g.val] v (hs c g) (ix2 q e) = v (ix2 ⟨128 * c.val + q.val, by omega⟩ ⟨256 * g.val + e.val, by omega⟩) := by
  unfold extractStridedSlice
  refine congrArg v (funext fun a => ?_)
  fin_cases a <;> rfl

theorem ldw_at (w : Vec Ideal S8x128x128 .bf16) (g : Fin 8) (p q : Fin 128) :
    (View.ld w (Rect.unit (s := S8x128x128) ![g.val, 0, 0] S1x128x128.size (hw g)) : Vec Ideal S1x128x128 .bf16) (ix3 0 p q) = w (ix3 g p q) := by
  rw [View.ld_apply]
  refine congrArg w (funext fun a => Fin.ext ?_)
  fin_cases a
  · show g.val + 0 * 1 = g.val; omega
  · show 0 + 1 * p.val = p.val; omega
  · show 0 + 1 * q.val = q.val; omega

theorem ldb_at (b : Vec Ideal S128x8 .f32) (g : Fin 8) (p : Fin 128) :
    (View.ld b (Rect.unit (s := S128x8) ![0, g.val] S128x1.size (hb g)) : Vec Ideal S128x1 .f32) (ix2 p 0) = b (ix2 p g) := by
  rw [View.ld_apply]
  refine congrArg b (funext fun a => Fin.ext ?_)
  fin_cases a
  · show 0 + 1 * p.val = p.val; omega
  · show g.val + 0 * 1 = g.val; omega

/-- One group's columns of one chunk's rows, mixed. -/
def mix (v : FVec Ideal S512x2048 .bf16) (w : Vec Ideal S8x128x128 .bf16) (b : Vec Ideal S128x8 .f32) (c : Fin 4) (g : Fin 8) : FVec Ideal S128x256 .f32 :=
  mixed (extractStridedSlice S128x256 ![128 * c.val, 256 * g.val] v (hs c g)) (View.ld w (Rect.unit (s := S8x128x128) ![g.val, 0, 0] S1x128x128.size (hw g)))
    (View.ld b (Rect.unit (s := S128x8) ![0, g.val] S128x1.size (hb g)))

theorem mix_at (v : FVec Ideal S512x2048 .bf16) (w : Vec Ideal S8x128x128 .bf16) (b : Vec Ideal S128x8 .f32) (c : Fin 4) (g : Fin 8) (p : Fin 128) (e : Fin 256) :
    mix v w b c g (ix2 p e) = (∑ q : Fin 128, w (ix3 g p q) * v (ix2 ⟨128 * c.val + q.val, by omega⟩ ⟨256 * g.val + e.val, by omega⟩)) + b (ix2 p g) := by
  unfold mix
  rw [mixed_at, ldb_at]
  exact congrArg (· + _) (Finset.sum_congr rfl fun q _ => congrArg₂ (· * ·) (ldw_at w g p q) (slice_at v c g q e))

/-- A chunk's eight groups side by side. -/
def chunk (v : FVec Ideal S512x2048 .bf16) (w : Vec Ideal S8x128x128 .bf16) (b : Vec Ideal S128x8 .f32) (c : Fin 4) : FVec Ideal S128x2048 .f32 :=
  concatenate S128x2048 1 (List.ofFn fun g : Fin 8 => (⟨S128x256, mix v w b c g⟩ : (s : Shape) × (s.Idx → Ideal .f32)))
    concatenates_S128x256_S128x256_S128x256_S128x256_S128x256_S128x256_S128x256_S128x256_S128x2048_d1

theorem chunk_at (v : FVec Ideal S512x2048 .bf16) (w : Vec Ideal S8x128x128 .bf16) (b : Vec Ideal S128x8 .f32) (c : Fin 4) (p : Fin 128) (l : Fin 2048) :
    chunk v w b c (ix2 p l) = (∑ q : Fin 128, w (ix3 ⟨l.val / 256, by omega⟩ p q) * v (ix2 ⟨128 * c.val + q.val, by omega⟩ l)) + b (ix2 p ⟨l.val / 256, by omega⟩) := by
  unfold chunk
  refine (concatenate_ofFn_apply (t := S128x2048) (s₁ := S128x256) 1 (mix v w b c) _ rfl 256 rfl (ix2 p l) ⟨l.val / 256, by omega⟩ rfl (ix2 p ⟨l.val % 256, by omega⟩) rfl
    (by intro a ha; fin_cases a; · rfl
        · exact absurd rfl ha)).trans ?_
  rw [mix_at]
  have e : (⟨256 * (l.val / 256) + l.val % 256, by omega⟩ : Fin 2048) = l := Fin.ext (Nat.div_add_mod l.val 256)
  simp only [e]

/-- The four chunks one above the other. -/
def sv (v : FVec Ideal S512x2048 .bf16) (w : Vec Ideal S8x128x128 .bf16) (b : Vec Ideal S128x8 .f32) : FVec Ideal S512x2048 .f32 :=
  concatenate S512x2048 0 (List.ofFn fun c : Fin 4 => (⟨S128x2048, chunk v w b c⟩ : (s : Shape) × (s.Idx → Ideal .f32)))
    concatenates_S128x2048_S128x2048_S128x2048_S128x2048_S512x2048_d0

theorem sv_at (v : FVec Ideal S512x2048 .bf16) (w : Vec Ideal S8x128x128 .bf16) (b : Vec Ideal S128x8 .f32) (r : Fin 512) (l : Fin 2048) :
    sv v w b (ix2 r l) = (∑ q : Fin 128, w (ix3 ⟨l.val / 256, by omega⟩ ⟨r.val % 128, by omega⟩ q) * v (ix2 ⟨128 * (r.val / 128) + q.val, by omega⟩ l)) + b (ix2 ⟨r.val % 128, by omega⟩ ⟨l.val / 256, by omega⟩) := by
  unfold sv
  refine (concatenate_ofFn_apply (t := S512x2048) (s₁ := S128x2048) 0 (chunk v w b) _ rfl 128 rfl (ix2 r l) ⟨r.val / 128, by omega⟩ rfl (ix2 ⟨r.val % 128, by omega⟩ l) rfl
    (by intro a ha; fin_cases a
        · exact absurd rfl ha
        · rfl)).trans ?_
  rw [chunk_at]

/-- The stream after the layer, of a block. -/
def yy (x : FVec Ideal S512x1024 .f32) (u s : FVec Ideal S512x2048 .f32) (W : Vec Ideal S2048x1024 .bf16) (gate : Vec Ideal S1x1x1024 .f32) : FVec Ideal S512x1024 .f32 :=
  addf x (mulf (broadcastTo S512x1024 (shapeCast S1x1024 gate shapeCasts_S1x1x1024_S1x1024) broadcasts_S1x1024_S512x1024)
    (matmul (φ₁ := .bf16) (φ₂ := .bf16) dot_S512x2048_S2048x1024_S512x1024_1_0_0_1_n_n none (truncf .bf16 (mulf u s) bitsLt_bf16_f32) (shapeCast S2048x1024 W shapeCasts_S2048x1024_S2048x1024) (constant S512x1024 .f32 0x00000000#32)))

theorem yy_at (x : FVec Ideal S512x1024 .f32) (u s : FVec Ideal S512x2048 .f32) (W : Vec Ideal S2048x1024 .bf16) (gate : Vec Ideal S1x1x1024 .f32) (r : Fin 512) (l : Fin 1024) :
    yy x u s W gate (ix2 r l) = x (ix2 r l) + gate (ix3 0 0 l) * ∑ f : Fin 2048, u (ix2 r f) * s (ix2 r f) * W (ix2 f l) := by
  pointwise [yy]

/-- The modulated norm of a block's rows. -/
def hh (y : FVec Ideal S512x1024 .f32) (g : Vec Ideal S1x1024 .f32) (sh sc : Vec Ideal S1x1x1024 .f32) : FVec Ideal S512x1024 .f32 :=
  addf (mulf (mulf (mulf y (broadcastTo S512x1024 (rsqrt (addf (divf (shapeCast S512x1 (multiReduction .add [1] S512 (mulf y y) 0x00000000#32 reduces_S512x1024_S512 (.inl rfl) rfl) shapeCasts_S512_S512x1)
      (broadcast S512x1 (Scalar.ofBits .f32 0x44800000#32 : Ideal .f32))) (broadcast S512x1 (Scalar.ofBits .f32 0x358637BD#32 : Ideal .f32)))) broadcasts_S512x1_S512x1024))
      (broadcastTo S512x1024 (shapeCast S1x1024 g shapeCasts_S1x1024_S1x1024) broadcasts_S1x1024_S512x1024))
      (broadcastTo S512x1024 (addf (broadcast S1x1024 (Scalar.ofBits .f32 0x3F800000#32 : Ideal .f32)) (shapeCast S1x1024 sc shapeCasts_S1x1x1024_S1x1024)) broadcasts_S1x1024_S512x1024))
    (broadcastTo S512x1024 (shapeCast S1x1024 sh shapeCasts_S1x1x1024_S1x1024) broadcasts_S1x1024_S512x1024)

theorem hh_at (y : FVec Ideal S512x1024 .f32) (g : Vec Ideal S1x1024 .f32) (sh sc : Vec Ideal S1x1x1024 .f32) (r : Fin 512) (l : Fin 1024) :
    hh y g sh sc (ix2 r l) = y (ix2 r l) * Ideal.rsqrt (Ideal.div (∑ x, y (ix2 r x) * y (ix2 r x)) (Ideal.ofBits FTy.f32 0x44800000#32) + Ideal.ofBits FTy.f32 0x358637BD#32)
      * g (ix2 0 l) * (1 + sc (ix3 0 0 l)) + sh (ix3 0 0 l) := by
  pointwise [hh]

theorem lg_at (a b : FVec Ideal S512x1024 .f32) (w : Vec Ideal S1024x256 .bf16) (w' : Vec Ideal S1024x128 .bf16) (e : Fin 16) (r : Fin 512) :
    k0_pay4 a b w w' (ix3 0 e r) = (∑ x, (a (ix2 r x) + b (ix2 r x)) * w (ix2 x ⟨e.val, by omega⟩)) + (∑ x, (a (ix2 r x) + b (ix2 r x)) * w (ix2 x ⟨128 + e.val, by omega⟩))
      + ∑ x, (a (ix2 r x) + b (ix2 r x) - (a (ix2 r x) + b (ix2 r x))) * w' (ix2 x ⟨e.val, by omega⟩) := by
  pointwise [k0_pay4, k0_pay2, k0_pay1]

section
variable (x0 : Vec Ideal S1x512x1024 .f32) (x1 : Vec Ideal S1x1024 .f32) (x2 x3 : Vec Ideal S1x1x1024 .f32) (x4 : Vec Ideal S1024x4096 .bf16) (x5 : Vec Ideal S1x2048 .f32)
  (x6 : Vec Ideal S8x128x128 .bf16) (x7 : Vec Ideal S128x8 .f32) (x8 : Vec Ideal S2048x1024 .bf16) (x9 : Vec Ideal S1x1x1024 .f32) (x10 : Vec Ideal S1x1024 .f32)
  (x11 x12 : Vec Ideal S1x1x1024 .f32) (x13 : Vec Ideal S1024x256 .bf16)

/-- The product with the first weights, of a block. -/
abbrev Zb : FVec Ideal S512x4096 .f32 := k0_pay6 x0 x1 x3 x2 x4

/-- The hyperbolic tangents of its gelu. -/
abbrev Tb : FVec Ideal S512x4096 .f32 := k0_pay7 x0 x1 x3 x2 x4

/-- The normed second half of the gelu. -/
abbrev Vb : FVec Ideal S512x2048 .bf16 := k0_pay10 (Zb x0 x1 x2 x3 x4) (Tb x0 x1 x2 x3 x4) x5

/-- A block's stream after the layer. -/
abbrev Yb : FVec Ideal S512x1024 .f32 :=
  yy (k0_pay5 x0) (k0_pay9 (Zb x0 x1 x2 x3 x4) (Tb x0 x1 x2 x3 x4)) (sv (Vb x0 x1 x2 x3 x4 x5) x6 x7) x8 x9

/-- A block's second norm. -/
abbrev Hb : FVec Ideal S512x1024 .f32 := hh (Yb x0 x1 x2 x3 x4 x5 x6 x7 x8 x9) x10 x11 x12

theorem ld0 : View.ld x0 r0_0 = x0 := View.ld_unit_lit _ x0 (by decide)
theorem ld1 : View.ld x1 r0_1 = x1 := View.ld_unit_lit _ x1 (by decide)
theorem ld2 : View.ld x2 r0_2 = x2 := View.ld_unit_lit _ x2 (by decide)
theorem ld4 : View.ld x4 r0_3 = x4 := View.ld_unit_lit _ x4 (by decide)
theorem ld5 : View.ld x5 r0_4 = x5 := View.ld_unit_lit _ x5 (by decide)
theorem ld8 : View.ld x8 r0_21 = x8 := View.ld_unit_lit _ x8 (by decide)
theorem ld13 : View.ld x13 r0_22 = x13 := View.ld_unit_lit _ x13 (by decide)

theorem pay54_eq : k0_pay54 x0 x1 x2 x3 x4 x5 x6 x7 x8 x9 x10 x11 x12 x13 = k0_pay5 x0 := by
  unfold k0_pay54
  rw [ld0]

theorem pay55_eq : k0_pay55 x0 x1 x2 x3 x4 x5 x6 x7 x8 x9 x10 x11 x12 x13 = Zb x0 x1 x2 x3 x4 := by
  unfold k0_pay55
  rw [ld0, ld1, ld2, ld2, ld4]

theorem pay56_eq : k0_pay56 x0 x1 x2 x3 x4 x5 x6 x7 x8 x9 x10 x11 x12 x13 = Tb x0 x1 x2 x3 x4 := by
  unfold k0_pay56
  rw [ld0, ld1, ld2, ld2, ld4]

theorem pay57_eq : k0_pay57 x0 x1 x2 x3 x4 x5 x6 x7 x8 x9 x10 x11 x12 x13 = k0_pay9 (Zb x0 x1 x2 x3 x4) (Tb x0 x1 x2 x3 x4) := by
  unfold k0_pay57
  rw [pay55_eq, pay56_eq]

theorem pay58_eq : k0_pay58 x0 x1 x2 x3 x4 x5 x6 x7 x8 x9 x10 x11 x12 x13 = Vb x0 x1 x2 x3 x4 x5 := by
  unfold k0_pay58
  rw [pay55_eq, pay56_eq, ld5]

theorem chunk0_eq : k0_pay59 x0 x1 x2 x3 x4 x5 x6 x7 x8 x9 x10 x11 x12 x13 = chunk (k0_pay58 x0 x1 x2 x3 x4 x5 x6 x7 x8 x9 x10 x11 x12 x13) x6 x7 0 := rfl

theorem chunk1_eq : k0_pay60 x0 x1 x2 x3 x4 x5 x6 x7 x8 x9 x10 x11 x12 x13 = chunk (k0_pay58 x0 x1 x2 x3 x4 x5 x6 x7 x8 x9 x10 x11 x12 x13) x6 x7 1 := rfl

theorem chunk2_eq : k0_pay61 x0 x1 x2 x3 x4 x5 x6 x7 x8 x9 x10 x11 x12 x13 = chunk (k0_pay58 x0 x1 x2 x3 x4 x5 x6 x7 x8 x9 x10 x11 x12 x13) x6 x7 2 := rfl

theorem y_eq (w : Vec Ideal S2048x1024 .bf16) (g : Vec Ideal S1x1x1024 .f32) :
    k0_pay50 (k0_pay54 x0 x1 x2 x3 x4 x5 x6 x7 x8 x9 x10 x11 x12 x13) (k0_pay57 x0 x1 x2 x3 x4 x5 x6 x7 x8 x9 x10 x11 x12 x13) (k0_pay59 x0 x1 x2 x3 x4 x5 x6 x7 x8 x9 x10 x11 x12 x13) (k0_pay60 x0 x1 x2 x3 x4 x5 x6 x7 x8 x9 x10 x11 x12 x13) (k0_pay61 x0 x1 x2 x3 x4 x5 x6 x7 x8 x9 x10 x11 x12 x13) (k0_pay62 x0 x1 x2 x3 x4 x5 x6 x7 x8 x9 x10 x11 x12 x13) (k0_pay63 x0 x1 x2 x3 x4 x5 x6 x7 x8 x9 x10 x11 x12 x13) (k0_pay64 x0 x1 x2 x3 x4 x5 x6 x7 x8 x9 x10 x11 x12 x13) (k0_pay65 x0 x1 x2 x3 x4 x5 x6 x7 x8 x9 x10 x11 x12 x13) (k0_pay66 x0 x1 x2 x3 x4 x5 x6 x7 x8 x9 x10 x11 x12 x13) (k0_pay67 x0 x1 x2 x3 x4 x5 x6 x7 x8 x9 x10 x11 x12 x13) (k0_pay68 x0 x1 x2 x3 x4 x5 x6 x7 x8 x9 x10 x11 x12 x13) (k0_pay69 x0 x1 x2 x3 x4 x5 x6 x7 x8 x9 x10 x11 x12 x13) w g
      = yy (k0_pay54 x0 x1 x2 x3 x4 x5 x6 x7 x8 x9 x10 x11 x12 x13) (k0_pay57 x0 x1 x2 x3 x4 x5 x6 x7 x8 x9 x10 x11 x12 x13) (sv (k0_pay58 x0 x1 x2 x3 x4 x5 x6 x7 x8 x9 x10 x11 x12 x13) x6 x7) w g := by
  rw [chunk0_eq, chunk1_eq, chunk2_eq]
  rfl

/-- What a point leaves of the stream. -/
theorem out_x : out0_14 x0 x1 x2 x3 x4 x5 x6 x7 x8 x9 x10 x11 x12 x13 = shapeCast S1x512x1024 (Yb x0 x1 x2 x3 x4 x5 x6 x7 x8 x9) shapeCasts_S512x1024_S1x512x1024 := by
  unfold out0_14
  refine (View.canon_cons_unit_lit _ _ _ (by decide)).trans ?_
  unfold k0_pay51
  rw [y_eq, pay54_eq, pay57_eq, pay58_eq, ld8, ld2]

theorem h_eq : addf (k0_pay70 x0 x1 x2 x3 x4 x5 x6 x7 x8 x9 x10 x11 x12 x13) (k0_pay71 x0 x1 x2 x3 x4 x5 x6 x7 x8 x9 x10 x11 x12 x13) = Hb x0 x1 x2 x3 x4 x5 x6 x7 x8 x9 x10 x11 x12 := by
  unfold k0_pay70 k0_pay71
  rw [ld8, ld2, ld2, ld2, ld1]
  unfold k0_pay52
  dsimp only
  rw [y_eq, pay54_eq, pay57_eq, pay58_eq]
  rfl

/-- What a point leaves of the second norm. -/
theorem out_h : out0_15 x0 x1 x2 x3 x4 x5 x6 x7 x8 x9 x10 x11 x12 x13 = shapeCast S1x512x1024 (truncf .bf16 (Hb x0 x1 x2 x3 x4 x5 x6 x7 x8 x9 x10 x11 x12) bitsLt_bf16_f32) shapeCasts_S512x1024_S1x512x1024 := by
  unfold out0_15
  refine (View.canon_cons_unit_lit _ _ _ (by decide)).trans ?_
  unfold k0_pay3 k0_pay2 k0_pay1
  dsimp only
  rw [h_eq]

theorem ld23 (x : Fin 1024) (e : Fin 128) : View.ld x13 r0_23 (ix2 x e : S1024x128.Idx) = x13 (ix2 x ⟨e.val, by omega⟩) := by
  refine View.ld_unit_apply_of x13 _ _ _ _ _ fun a => ?_
  fin_cases a
  · show x.val = 0 + x.val; omega
  · show e.val = 0 + e.val; omega

/-- What a point leaves of the logits. -/
theorem out_l (e : Fin 16) (r : Fin 512) : out0_16 x0 x1 x2 x3 x4 x5 x6 x7 x8 x9 x10 x11 x12 x13 (ix3 0 e r)
    = (∑ x, Hb x0 x1 x2 x3 x4 x5 x6 x7 x8 x9 x10 x11 x12 (ix2 r x) * x13 (ix2 x ⟨e.val, by omega⟩))
      + (∑ x, Hb x0 x1 x2 x3 x4 x5 x6 x7 x8 x9 x10 x11 x12 (ix2 r x) * x13 (ix2 x ⟨128 + e.val, by omega⟩))
      + ∑ x, (Hb x0 x1 x2 x3 x4 x5 x6 x7 x8 x9 x10 x11 x12 (ix2 r x) - Hb x0 x1 x2 x3 x4 x5 x6 x7 x8 x9 x10 x11 x12 (ix2 r x)) * x13 (ix2 x ⟨e.val, by omega⟩) := by
  unfold out0_16
  refine (congrFun (View.canon_cons_unit_lit _ _ _ (by decide)) _).trans ((lg_at _ _ _ _ e r).trans ?_)
  have h : ∀ x, k0_pay70 x0 x1 x2 x3 x4 x5 x6 x7 x8 x9 x10 x11 x12 x13 (ix2 r x) + k0_pay71 x0 x1 x2 x3 x4 x5 x6 x7 x8 x9 x10 x11 x12 x13 (ix2 r x) = Hb x0 x1 x2 x3 x4 x5 x6 x7 x8 x9 x10 x11 x12 (ix2 r x) :=
    fun x => congrFun (h_eq x0 x1 x2 x3 x4 x5 x6 x7 x8 x9 x10 x11 x12 x13) (ix2 r x)
  simp only [h]
  exact congrArg₂ (· + ·) (congrArg₂ (· + ·) (Finset.sum_congr rfl fun x _ => congrArg₂ (· * ·) rfl (congrFun (ld13 x13) _))
      (Finset.sum_congr rfl fun x _ => congrArg₂ (· * ·) rfl (congrFun (ld13 x13) _)))
    (Finset.sum_congr rfl fun x _ => congrArg₂ (· * ·) rfl (ld23 x13 x ⟨e.val, by omega⟩))
end

end Cert.Kernel3Ideal.Gm

end
-- ==== Proof.GmRef.lean ====
/- The gated MLP's reference, one index at a time: its three results are named part by part. -/
module

public import proofs.«01_k».proof.Proof.Gen.Reference3Ideal.Run
public import Idealize.ShloMosaic.Lib.Pipeline.ValueKit

@[expose] public section

set_option maxRecDepth 16384

noncomputable section

namespace Cert.Reference3Ideal.Gm

open Idealize.ShloMosaic Idealize.ShloMosaic.TcCoe Idealize.SL.Sem
open Cert.Reference3Ideal Cert.Reference3Ideal.Gen

/-- The modulated norm of the rows. -/
def MN (X : FVec Ideal S16x2048x1024 .f32) (g : FVec Ideal S1024 .f32) (sh sc : FVec Ideal S16x1x1024 .f32) : FVec Ideal S16x2048x1024 .f32 :=
  addf (mulf (mulf (mulf X (broadcastInDim S16x2048x1024 ![0, 1, 2] bcast_S16x2048x1_S16x2048x1024_0_1_2
      (Host.rsqrt (addf (Host.divf (broadcastInDim S16x2048x1 ![0, 1] bcast_S16x2048_S16x2048x1_0_1
          (Host.reduceAdd (mulf X X) (constant S_ .f32 0x00000000#32) reducesTo_S16x2048x1024_S16x2048_d2 h_S_))
        (broadcastInDim S16x2048x1 ![] bcast_S_S16x2048x1 (constant S_ .f32 0x44800000#32)))
        (broadcastInDim S16x2048x1 ![] bcast_S_S16x2048x1 (constant S_ .f32 0x358637BD#32))))))
      (broadcastInDim S16x2048x1024 ![0, 1, 2] bcast_S1x1x1024_S16x2048x1024_0_1_2 (broadcastInDim S1x1x1024 ![2] bcast_S1024_S1x1x1024_2 g)))
      (broadcastInDim S16x2048x1024 ![0, 1, 2] bcast_S16x1x1024_S16x2048x1024_0_1_2
        (addf (broadcastInDim S16x1x1024 ![] bcast_S_S16x1x1024 (constant S_ .f32 0x3F800000#32)) sc)))
    (broadcastInDim S16x2048x1024 ![0, 1, 2] bcast_S16x1x1024_S16x2048x1024_0_1_2 sh)

/-- The product with the first weights. -/
def ZR (H : FVec Ideal S16x2048x1024 .f32) (W : FVec Ideal S1x1024x4096 .f32) : FVec Ideal S16x2048x4096 .f32 :=
  Host.dotGeneral dot_S16x2048x1024_S1024x4096_S16x2048x4096_2_0_01_1_n_n none H (shapeCast S1024x4096 W shapeCasts_S1x1024x4096_S1024x4096)

/-- The gelu, by its tanh formula. -/
def GE (Z : FVec Ideal S16x2048x4096 .f32) : FVec Ideal S16x2048x4096 .f32 :=
  mulf Z (mulf (broadcastInDim S16x2048x4096 ![] bcast_S_S16x2048x4096 (constant S_ .f32 0x3F000000#32))
    (addf (broadcastInDim S16x2048x4096 ![] bcast_S_S16x2048x4096 (constant S_ .f32 0x3F800000#32))
      (Host.tanh (mulf (broadcastInDim S16x2048x4096 ![] bcast_S_S16x2048x4096 (constant S_ .f32 0x3F4C422A#32))
        (addf Z (mulf (broadcastInDim S16x2048x4096 ![] bcast_S_S16x2048x4096 (constant S_ .f32 0x3D372713#32)) (mulf (mulf Z Z) Z)))))))

/-- The second half of the columns. -/
def V2 (G : FVec Ideal S16x2048x4096 .f32) : FVec Ideal S16x2048x2048 .f32 :=
  extractStridedSlice S16x2048x2048 ![0, 0, 2048] G slices_S16x2048x4096_S16x2048x2048_0_0_2048

/-- Its norm. -/
def VN (v : FVec Ideal S16x2048x2048 .f32) (vg : FVec Ideal S1x2048 .f32) : FVec Ideal S16x2048x2048 .f32 :=
  mulf (mulf v (broadcastInDim S16x2048x2048 ![0, 1, 2] bcast_S16x2048x1_S16x2048x2048_0_1_2
      (Host.rsqrt (addf (Host.divf (broadcastInDim S16x2048x1 ![0, 1] bcast_S16x2048_S16x2048x1_0_1
          (Host.reduceAdd (mulf v v) (constant S_ .f32 0x00000000#32) reducesTo_S16x2048x2048_S16x2048_d2 h_S_))
        (broadcastInDim S16x2048x1 ![] bcast_S_S16x2048x1 (constant S_ .f32 0x45000000#32)))
        (broadcastInDim S16x2048x1 ![] bcast_S_S16x2048x1 (constant S_ .f32 0x358637BD#32))))))
    (broadcastInDim S16x2048x2048 ![0, 1, 2] bcast_S1x1x2048_S16x2048x2048_0_1_2
      (broadcastInDim S1x1x2048 ![2] bcast_S2048_S1x1x2048_2 (shapeCast S2048 vg shapeCasts_S1x2048_S2048)))

/-- The mixing of a chunk's rows, group by group, with its bias. -/
def SV (v : FVec Ideal S16x2048x2048 .f32) (ws : FVec Ideal S1x8x128x128 .f32) (bs : FVec Ideal S1x8x128 .f32) : FVec Ideal S16x2048x2048 .f32 :=
  shapeCast S16x2048x2048 (addf (transpose S16x16x128x8x256 [1, 2, 4, 0, 3]
      (Host.dotGeneral dot_S16x16x128x8x256_S8x128x128_S8x16x16x256x128_2_2_014_1_3_0 none
        (shapeCast S16x16x128x8x256 v shapeCasts_S16x2048x2048_S16x16x128x8x256) (shapeCast S8x128x128 ws shapeCasts_S1x8x128x128_S8x128x128))
      transposes_S8x16x16x256x128_S16x16x128x8x256_1_2_4_0_3)
    (broadcastInDim S16x16x128x8x256 ![0, 1, 2, 3, 4] bcast_S1x1x128x8x1_S16x16x128x8x256_0_1_2_3_4
      (broadcastInDim S1x1x128x8x1 ![2, 3, 4] bcast_S128x8x1_S1x1x128x8x1_2_3_4
        (broadcastInDim S128x8x1 ![0, 1] bcast_S128x8_S128x8x1_0_1
          (transpose S128x8 [1, 0] (shapeCast S8x128 bs shapeCasts_S1x8x128_S8x128) transposes_S8x128_S128x8_1_0)))))
    shapeCasts_S16x16x128x8x256_S16x2048x2048

/-- The stream after the layer. -/
def XN (X : FVec Ideal S16x2048x1024 .f32) (G : FVec Ideal S16x2048x4096 .f32) (S : FVec Ideal S16x2048x2048 .f32) (W : FVec Ideal S1x2048x1024 .f32)
    (gate : FVec Ideal S16x1x1024 .f32) : FVec Ideal S16x2048x1024 .f32 :=
  addf X (mulf (broadcastInDim S16x2048x1024 ![0, 1, 2] bcast_S16x1x1024_S16x2048x1024_0_1_2 gate)
    (Host.dotGeneral dot_S16x2048x2048_S2048x1024_S16x2048x1024_2_0_01_1_n_n none
      (mulf (extractStridedSlice S16x2048x2048 ![0, 0, 0] G slices_S16x2048x4096_S16x2048x2048_0_0_0) S)
      (shapeCast S2048x1024 W shapeCasts_S1x2048x1024_S2048x1024)))

/-- The router's logits. -/
def LG (H : FVec Ideal S16x2048x1024 .f32) (W : FVec Ideal S1024x16 .f32) : FVec Ideal S16x16x2048 .f32 :=
  transpose S16x16x2048 [0, 2, 1] (Host.dotGeneral dot_S16x2048x1024_S1024x16_S16x2048x16_2_0_01_1_n_n none H W) transposes_S16x2048x16_S16x16x2048_0_2_1

variable (m : (ℓ : Loc nD τ sig) → Buf (Elt Ideal) ℓ) (c : Dev nD)

/-- The reference's stream after the layer, over its arguments. -/
def X1 (A0 : FVec Ideal S16x2048x1024 .f32) (A1 : FVec Ideal S1024 .f32) (A2 A3 : FVec Ideal S16x1x1024 .f32) (A4 : FVec Ideal S1x1024x4096 .f32)
    (A5 : FVec Ideal S1x2048 .f32) (A6 : FVec Ideal S1x8x128x128 .f32) (A7 : FVec Ideal S1x8x128 .f32) (A8 : FVec Ideal S1x2048x1024 .f32)
    (A9 : FVec Ideal S16x1x1024 .f32) : FVec Ideal S16x2048x1024 .f32 :=
  XN A0 (GE (ZR (MN A0 A1 A2 A3) A4)) (SV (VN (V2 (GE (ZR (MN A0 A1 A2 A3) A4))) A5) A6 A7) A8 A9

/-- The same of the launch's arguments. -/
abbrev X1m : FVec Ideal S16x2048x1024 .f32 :=
  X1 (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9))

/-- The second norm of the launch's arguments. -/
abbrev H1m : FVec Ideal S16x2048x1024 .f32 :=
  MN (X1m m c) (m ((c.tc : Thread nD τ).loc main_arg10)) (m ((c.tc : Thread nD τ).loc main_arg11)) (m ((c.tc : Thread nD τ).loc main_arg12))

theorem x_eq : Value.res_main_v66 m c = X1m m c := rfl

theorem h_eq : Value.res_main_v86 m c = truncf .bf16 (H1m m c) bitsLt_bf16_f32 := rfl

theorem l_eq : Value.res_main_v88 m c = LG (H1m m c) (m ((c.tc : Thread nD τ).loc main_arg13)) := rfl

theorem MN_at (X : FVec Ideal S16x2048x1024 .f32) (g : FVec Ideal S1024 .f32) (sh sc : FVec Ideal S16x1x1024 .f32) (b : Fin 16) (n : Fin 2048) (l : Fin 1024) :
    MN X g sh sc (ix3 b n l) = X (ix3 b n l) * Ideal.rsqrt (Ideal.div (∑ x, X (ix3 b n x) * X (ix3 b n x)) (Ideal.ofBits FTy.f32 0x44800000#32) + Ideal.ofBits FTy.f32 0x358637BD#32)
      * g (ix1 l) * (1 + sc (ix3 b 0 l)) + sh (ix3 b 0 l) := by
  pointwise [MN]

theorem ZR_at (H : FVec Ideal S16x2048x1024 .f32) (W : FVec Ideal S1x1024x4096 .f32) (b : Fin 16) (n : Fin 2048) (f : Fin 4096) :
    ZR H W (ix3 b n f) = ∑ x, H (ix3 b n x) * W (ix3 0 x f) := by
  pointwise [ZR]

/-- The gelu of a number, by its tanh formula. -/
def gelu (z : EReal) : EReal :=
  z * (Ideal.ofBits FTy.f32 0x3F000000#32 * (1 + Ideal.tanh (Ideal.ofBits FTy.f32 0x3F4C422A#32 * (z + Ideal.ofBits FTy.f32 0x3D372713#32 * (z * z * z)))))

theorem GE_at (Z : FVec Ideal S16x2048x4096 .f32) (b : Fin 16) (n : Fin 2048) (f : Fin 4096) : GE Z (ix3 b n f) = gelu (Z (ix3 b n f)) := by
  pointwise [GE, gelu]

theorem V2_at (G : FVec Ideal S16x2048x4096 .f32) (b : Fin 16) (n : Fin 2048) (l : Fin 2048) : V2 G (ix3 b n l) = G (ix3 b n ⟨2048 + l.val, by omega⟩) := by
  pointwise [V2]

theorem VN_at (v : FVec Ideal S16x2048x2048 .f32) (vg : FVec Ideal S1x2048 .f32) (b : Fin 16) (n : Fin 2048) (l : Fin 2048) :
    VN v vg (ix3 b n l) = v (ix3 b n l) * Ideal.rsqrt (Ideal.div (∑ x, v (ix3 b n x) * v (ix3 b n x)) (Ideal.ofBits FTy.f32 0x45000000#32) + Ideal.ofBits FTy.f32 0x358637BD#32)
      * vg (ix2 0 l) := by
  pointwise [VN]

theorem SV_at (v : FVec Ideal S16x2048x2048 .f32) (ws : FVec Ideal S1x8x128x128 .f32) (bs : FVec Ideal S1x8x128 .f32) (b : Fin 16) (n : Fin 2048) (l : Fin 2048) :
    SV v ws bs (ix3 b n l) = (∑ q : Fin 128, v (ix3 b ⟨n.val / 128 * 128 + q.val, by omega⟩ l) * ws (ix4 0 ⟨l.val / 256, by omega⟩ ⟨n.val % 128, by omega⟩ q))
      + bs (ix3 0 ⟨l.val / 256, by omega⟩ ⟨n.val % 128, by omega⟩) := by
  pointwise [SV]

theorem XN_at (X : FVec Ideal S16x2048x1024 .f32) (G : FVec Ideal S16x2048x4096 .f32) (S : FVec Ideal S16x2048x2048 .f32) (W : FVec Ideal S1x2048x1024 .f32)
    (gate : FVec Ideal S16x1x1024 .f32) (b : Fin 16) (n : Fin 2048) (l : Fin 1024) :
    XN X G S W gate (ix3 b n l) = X (ix3 b n l) + gate (ix3 b 0 l) * ∑ x : Fin 2048, G (ix3 b n ⟨x.val, by omega⟩) * S (ix3 b n x) * W (ix3 0 x l) := by
  pointwise [XN]

theorem LG_at (H : FVec Ideal S16x2048x1024 .f32) (W : FVec Ideal S1024x16 .f32) (b : Fin 16) (e : Fin 16) (n : Fin 2048) :
    LG H W (ix3 b e n) = ∑ x, H (ix3 b n x) * W (ix2 x e) := by
  pointwise [LG]

end Cert.Reference3Ideal.Gm

end
-- ==== Proof.GmValue.lean ====
/- The gated MLP's values: a block of the kernel's results is the reference's at the same rows. -/
module

public import proofs.«01_k».proof.Proof.GmPoint
public import proofs.«01_k».proof.Proof.GmRef
public import proofs.«01_k».proof.Proof.DaMath

@[expose] public section

set_option maxRecDepth 16384

noncomputable section

namespace Cert.Kernel3Ideal.Gm

open Idealize.ShloMosaic Idealize.ShloMosaic.TcCoe Idealize.SL.Sem
open Cert.Kernel3Ideal Cert.Kernel3Ideal.Gen
open Cert.DaMath
open Cert.Reference3Ideal.Gm (MN ZR GE V2 VN SV XN LG X1 gelu MN_at ZR_at GE_at V2_at VN_at SV_at XN_at LG_at)

section

variable (A0 : FVec Ideal Cert.Reference3Ideal.S16x2048x1024 .f32) (A1 : FVec Ideal Cert.Reference3Ideal.S1024 .f32)
  (A2 A3 : FVec Ideal Cert.Reference3Ideal.S16x1x1024 .f32) (A4 : FVec Ideal Cert.Reference3Ideal.S1x1024x4096 .f32) (A5 : FVec Ideal Cert.Reference3Ideal.S1x2048 .f32)
  (A6 : FVec Ideal Cert.Reference3Ideal.S1x8x128x128 .f32) (A7 : FVec Ideal Cert.Reference3Ideal.S1x8x128 .f32) (A8 : FVec Ideal Cert.Reference3Ideal.S1x2048x1024 .f32)
  (A9 : FVec Ideal Cert.Reference3Ideal.S16x1x1024 .f32) (A10 : FVec Ideal Cert.Reference3Ideal.S1024 .f32) (A11 A12 : FVec Ideal Cert.Reference3Ideal.S16x1x1024 .f32)
  (A13 : FVec Ideal Cert.Reference3Ideal.S1024x16 .f32)

variable (x0 : Vec Ideal S1x512x1024 .f32) (x1 : Vec Ideal S1x1024 .f32) (x2 x3 : Vec Ideal S1x1x1024 .f32) (x4 : Vec Ideal S1024x4096 .bf16) (x5 : Vec Ideal S1x2048 .f32)
  (x6 : Vec Ideal S8x128x128 .bf16) (x7 : Vec Ideal S128x8 .f32) (x8 : Vec Ideal S2048x1024 .bf16) (x9 : Vec Ideal S1x1x1024 .f32) (x10 : Vec Ideal S1x1024 .f32)
  (x11 x12 : Vec Ideal S1x1x1024 .f32) (x13 : Vec Ideal S1024x256 .bf16)

variable (b : Fin 16) (k : Fin 4)

/-- A block's row among its batch's. -/
def row (r : Fin 512) : Fin 2048 := ⟨k.val * 512 + r.val, by omega⟩

/-- The gelu of the first product, in the reference. -/
abbrev GR : FVec Ideal Cert.Reference3Ideal.S16x2048x4096 .f32 := GE (ZR (MN A0 A1 A2 A3) A4)

/-- The normed second half, in the reference. -/
abbrev VR : FVec Ideal Cert.Reference3Ideal.S16x2048x2048 .f32 := VN (V2 (GR A0 A1 A2 A3 A4)) A5

variable
  (h0 : ∀ r l, x0 (ix3 0 r l) = A0 (ix3 b (row k r) l)) (h1 : ∀ l, x1 (ix2 0 l) = A1 (ix1 l)) (h2 : ∀ l, x2 (ix3 0 0 l) = A2 (ix3 b 0 l)) (h3 : ∀ l, x3 (ix3 0 0 l) = A3 (ix3 b 0 l))
  (h4 : ∀ x f, x4 (ix2 x f) = A4 (ix3 0 x f))

include h0 h1 h2 h3 h4 in
theorem z_eq (r : Fin 512) (f : Fin 4096) : Zb x0 x1 x2 x3 x4 (ix2 r f) = ZR (MN A0 A1 A2 A3) A4 (ix3 b (row k r) f) := by
  unfold Zb
  rw [z_at, ZR_at]
  refine Finset.sum_congr rfl fun x _ => ?_
  rw [MN_at]
  simp only [h0, h1, h2, h3, h4]

include h0 h1 h2 h3 h4 in
theorem g_eq (r : Fin 512) (f : Fin 4096) : k0_pay8 (Zb x0 x1 x2 x3 x4) (Tb x0 x1 x2 x3 x4) (ix2 r f) = GR A0 A1 A2 A3 A4 (ix3 b (row k r) f) := by
  unfold GR
  have z : k0_pay6 x0 x1 x3 x2 x4 (ix2 r f) = _ := z_eq A0 A1 A2 A3 A4 x0 x1 x2 x3 x4 b k h0 h1 h2 h3 h4 r f
  rw [ge_at, GE_at]
  unfold Zb Tb
  rw [t_at, z]
  unfold gelu
  rw [mul_assoc (ZR (MN A0 A1 A2 A3) A4 (ix3 b (row k r) f)) (ZR (MN A0 A1 A2 A3) A4 (ix3 b (row k r) f))]

variable (h5 : ∀ l, x5 (ix2 0 l) = A5 (ix2 0 l))

include h0 h1 h2 h3 h4 h5 in
theorem v_eq (r : Fin 512) (l : Fin 2048) : Vb x0 x1 x2 x3 x4 x5 (ix2 r l) = VR A0 A1 A2 A3 A4 A5 (ix3 b (row k r) l) := by
  unfold Vb VR
  rw [v_at, VN_at]
  simp only [V2_at, g_eq A0 A1 A2 A3 A4 x0 x1 x2 x3 x4 b k h0 h1 h2 h3 h4, h5]

variable (h6 : ∀ g p q, x6 (ix3 g p q) = A6 (ix4 0 g p q)) (h7 : ∀ p g, x7 (ix2 p g) = A7 (ix3 0 g p))

include h0 h1 h2 h3 h4 h5 h6 h7 in
theorem s_eq (r : Fin 512) (l : Fin 2048) : sv (Vb x0 x1 x2 x3 x4 x5) x6 x7 (ix2 r l) = SV (VR A0 A1 A2 A3 A4 A5) A6 A7 (ix3 b (row k r) l) := by
  rw [sv_at, SV_at]
  have e1 : ∀ q : Fin 128, row k ⟨128 * (r.val / 128) + q.val, by omega⟩ = ⟨(row k r).val / 128 * 128 + q.val, by have := (row k r).isLt; omega⟩ := fun q => Fin.ext (by
    show k.val * 512 + (128 * (r.val / 128) + q.val) = (k.val * 512 + r.val) / 128 * 128 + q.val
    omega)
  have e2 : (⟨r.val % 128, by omega⟩ : Fin 128) = ⟨(row k r).val % 128, by omega⟩ := Fin.ext (by
    show r.val % 128 = (k.val * 512 + r.val) % 128
    omega)
  rw [h7, e2]
  refine congrArg (· + _) (Finset.sum_congr rfl fun q _ => ?_)
  rw [h6, v_eq A0 A1 A2 A3 A4 A5 x0 x1 x2 x3 x4 x5 b k h0 h1 h2 h3 h4 h5, e1, mul_comm]

variable (h8 : ∀ f l, x8 (ix2 f l) = A8 (ix3 0 f l)) (h9 : ∀ l, x9 (ix3 0 0 l) = A9 (ix3 b 0 l))

theorem x_at (r : Fin 512) (l : Fin 1024) : k0_pay5 x0 (ix2 r l) = x0 (ix3 0 r l) := by
  pointwise [k0_pay5]

include h0 h1 h2 h3 h4 h5 h6 h7 h8 h9 in
/-- The stream after the layer. -/
theorem stream_eq (r : Fin 512) (l : Fin 1024) : Yb x0 x1 x2 x3 x4 x5 x6 x7 x8 x9 (ix2 r l) = X1 A0 A1 A2 A3 A4 A5 A6 A7 A8 A9 (ix3 b (row k r) l) := by
  unfold Yb X1
  rw [yy_at, XN_at, x_at, h0, h9]
  refine congrArg (_ + _ * ·) (Finset.sum_congr rfl fun f _ => ?_)
  rw [u_at, g_eq A0 A1 A2 A3 A4 x0 x1 x2 x3 x4 b k h0 h1 h2 h3 h4, s_eq A0 A1 A2 A3 A4 A5 A6 A7 x0 x1 x2 x3 x4 x5 x6 x7 b k h0 h1 h2 h3 h4 h5 h6 h7, h8]

variable (h10 : ∀ l, x10 (ix2 0 l) = A10 (ix1 l)) (h11 : ∀ l, x11 (ix3 0 0 l) = A11 (ix3 b 0 l)) (h12 : ∀ l, x12 (ix3 0 0 l) = A12 (ix3 b 0 l))

/-- The second norm, in the reference. -/
abbrev HR : FVec Ideal Cert.Reference3Ideal.S16x2048x1024 .f32 := MN (X1 A0 A1 A2 A3 A4 A5 A6 A7 A8 A9) A10 A11 A12

include h0 h1 h2 h3 h4 h5 h6 h7 h8 h9 h10 h11 h12 in
/-- The second norm. -/
theorem norm_eq (r : Fin 512) (l : Fin 1024) : Hb x0 x1 x2 x3 x4 x5 x6 x7 x8 x9 x10 x11 x12 (ix2 r l) = HR A0 A1 A2 A3 A4 A5 A6 A7 A8 A9 A10 A11 A12 (ix3 b (row k r) l) := by
  unfold Hb HR
  rw [hh_at, MN_at]
  simp only [stream_eq A0 A1 A2 A3 A4 A5 A6 A7 A8 A9 x0 x1 x2 x3 x4 x5 x6 x7 x8 x9 b k h0 h1 h2 h3 h4 h5 h6 h7 h8 h9, h10, h11, h12]

end

/-- A number times the inverse root of a positive mean of squares is a real, whatever the squares. -/
theorem unit_isR {n : ℕ} (y : Fin n → EReal) (l : Fin n) (N e : ℝ) (hN : 0 < N) (he : 0 < e) :
    IsR (y l * Ideal.rsqrt (Ideal.div (∑ x, y x * y x) (N : EReal) + (e : EReal))) := by
  have hd : ∀ z : EReal, Ideal.div z (N : EReal) = z * ((N⁻¹ : ℝ) : EReal) := fun z => by
    unfold Ideal.div
    rw [if_neg (by exact_mod_cast hN.ne'), EReal.coe_inv]
  have hi : 0 < N⁻¹ := inv_pos.mpr hN
  rw [hd]
  by_cases h : ∀ x, IsR (y x)
  · choose a ha using h
    have hs : ∑ x, y x * y x = ((∑ x, a x * a x : ℝ) : EReal) := by
      rw [coe_sum]
      exact Finset.sum_congr rfl fun x _ => by rw [ha, EReal.coe_mul]
    have h0 : 0 ≤ ∑ x, a x * a x := Finset.sum_nonneg fun x _ => mul_self_nonneg _
    have hp : 0 < (∑ x, a x * a x) * N⁻¹ + e := by positivity
    rw [hs, ha l, ← EReal.coe_mul, ← EReal.coe_add, Ideal.rsqrt_coe, if_neg hp.not_gt, if_neg hp.ne', ← EReal.coe_mul]
    exact ⟨_, rfl⟩
  · obtain ⟨x, hx⟩ := not_forall.mp h
    have hn : ∀ z : EReal, 0 ≤ z * z := fun z => by
      induction z with
      | bot => simp
      | top => simp
      | coe r => exact_mod_cast mul_self_nonneg r
    have ht : y x * y x = ⊤ := by
      cases hy : y x with
      | bot => simp
      | top => simp
      | coe r => exact absurd ⟨r, hy⟩ hx
    have hs : ∑ x, y x * y x = ⊤ := top_le_iff.mp (ht ▸ Finset.single_le_sum (f := fun x => y x * y x) (fun i _ => hn (y i)) (Finset.mem_univ x))
    rw [hs, EReal.top_mul_coe_of_pos hi, EReal.top_add_coe, Ideal.rsqrt_top, mul_zero]
    exact ⟨0, rfl⟩

theorem mean_bits : ∃ N : ℝ, 0 < N ∧ Ideal.ofBits FTy.f32 0x44800000#32 = (N : EReal) := by
  refine ⟨_, ?_, by simp [Ideal.ofBits, Ideal.ieee]; rfl⟩
  positivity

theorem eps_bits : ∃ e : ℝ, 0 < e ∧ Ideal.ofBits FTy.f32 0x358637BD#32 = (e : EReal) := by
  refine ⟨_, ?_, by simp [Ideal.ofBits, Ideal.ieee]; rfl⟩
  positivity

theorem real_mul {a b : EReal} (ha : IsR a) (hb : IsR b) : IsR (a * b) := by
  obtain ⟨x, rfl⟩ := ha
  obtain ⟨y, rfl⟩ := hb
  exact ⟨x * y, (EReal.coe_mul x y).symm⟩

theorem real_add {a b : EReal} (ha : IsR a) (hb : IsR b) : IsR (a + b) := by
  obtain ⟨x, rfl⟩ := ha
  obtain ⟨y, rfl⟩ := hb
  exact ⟨x + y, (EReal.coe_add x y).symm⟩

theorem real_sub {a : EReal} (ha : IsR a) : a - a = 0 := by
  obtain ⟨x, rfl⟩ := ha
  exact EReal.sub_self (EReal.coe_ne_top x) (EReal.coe_ne_bot x)

/-- A modulated norm whose weights and modulation are reals is a real, whatever its rows. -/
theorem MN_isR (A0 : FVec Ideal Cert.Reference3Ideal.S16x2048x1024 .f32) (A10 : FVec Ideal Cert.Reference3Ideal.S1024 .f32) (A11 A12 : FVec Ideal Cert.Reference3Ideal.S16x1x1024 .f32)
    (f10 : ∀ i, IsR (A10 i)) (f11 : ∀ i, IsR (A11 i)) (f12 : ∀ i, IsR (A12 i)) (b : Fin 16) (n : Fin 2048) (l : Fin 1024) : IsR (MN A0 A10 A11 A12 (ix3 b n l)) := by
  obtain ⟨N, hN, eN⟩ := mean_bits
  obtain ⟨e, he, ee⟩ := eps_bits
  rw [MN_at, eN, ee]
  exact real_add (real_mul (real_mul (unit_isR (fun x => A0 (ix3 b n x)) l N e hN he) (f10 _)) (real_add ⟨1, rfl⟩ (f12 _))) (f11 _)

/-- The logits' three sums, where the rows and the weights are reals, are the one sum. -/
theorem split_sum (h w : Fin 1024 → EReal) (fh : ∀ x, IsR (h x)) (fw : ∀ x, IsR (w x)) :
    (∑ x, h x * w x) + (∑ x, h x * (w x - w x)) + ∑ x, (h x - h x) * w x = ∑ x, h x * w x := by
  simp only [real_sub (fh _), real_sub (fw _), mul_zero, zero_mul, Finset.sum_const_zero, add_zero]

end Cert.Kernel3Ideal.Gm

end
-- ==== Proof.GmFinal.lean ====
/- The gated MLP's result arrays: after the run each holds what the reference computes. -/
module

public import proofs.«01_k».proof.Proof.GmBlocks
public import proofs.«01_k».proof.Proof.GmValue

@[expose] public section

set_option maxRecDepth 16384

noncomputable section

namespace Cert.Kernel3Ideal.Gm

open Idealize.ShloMosaic Idealize.ShloMosaic.TcCoe Idealize.SL.Sem
open Cert.Kernel3Ideal Cert.Kernel3Ideal.Gen
open Cert.DaMath
open Cert.Reference3Ideal.Gm (MN LG X1 LG_at)

variable (m : (ℓ : Loc nD τ sig) → Buf (Elt Ideal) ℓ) (c : Dev nD)

/-- The reference's stream after the layer, of the kernel's arguments. -/
abbrev XK : FVec Ideal Cert.Reference3Ideal.S16x2048x1024 .f32 :=
  X1 (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9))

/-- Its second norm. -/
abbrev HK : FVec Ideal Cert.Reference3Ideal.S16x2048x1024 .f32 :=
  MN (XK m c) (m ((c.tc : Thread nD τ).loc main_arg10)) (m ((c.tc : Thread nD τ).loc main_arg11)) (m ((c.tc : Thread nD τ).loc main_arg12))

variable (t : Fin cfg0.N)

/-- The batch and the quarter of a point. -/
def bat : Fin 16 := ⟨t.val / 4, by have := t_lt t; omega⟩
def qua : Fin 4 := ⟨t.val % 4, by omega⟩

theorem x_pt (r : Fin 512) (l : Fin 1024) :
    Yb (iblk m c 0 t) (iblk m c 1 t) (iblk m c 2 t) (iblk m c 3 t) (iblk m c 4 t) (iblk m c 5 t) (iblk m c 6 t) (iblk m c 7 t) (iblk m c 8 t) (iblk m c 9 t) (ix2 r l)
      = XK m c (ix3 (bat t) (row (qua t) r) l) :=
  stream_eq _ _ _ _ _ _ _ _ _ _ _ _ _ _ _ _ _ _ _ _ (bat t) (qua t) (x_blk m c t) (g_blk m c t) (sh_blk m c t) (sc_blk m c t) (wi_blk m c t) (vg_blk m c t)
    (ws_blk m c t) (bs_blk m c t) (wo_blk m c t) (ga_blk m c t) r l

theorem h_pt (r : Fin 512) (l : Fin 1024) :
    Hb (iblk m c 0 t) (iblk m c 1 t) (iblk m c 2 t) (iblk m c 3 t) (iblk m c 4 t) (iblk m c 5 t) (iblk m c 6 t) (iblk m c 7 t) (iblk m c 8 t) (iblk m c 9 t)
        (iblk m c 10 t) (iblk m c 11 t) (iblk m c 12 t) (ix2 r l)
      = HK m c (ix3 (bat t) (row (qua t) r) l) :=
  norm_eq _ _ _ _ _ _ _ _ _ _ _ _ _ _ _ _ _ _ _ _ _ _ _ _ _ _ (bat t) (qua t) (x_blk m c t) (g_blk m c t) (sh_blk m c t) (sc_blk m c t) (wi_blk m c t) (vg_blk m c t)
    (ws_blk m c t) (bs_blk m c t) (wo_blk m c t) (ga_blk m c t) (mg_blk m c t) (sh2_blk m c t) (sc2_blk m c t) r l

/-- The stream's array. -/
theorem final14 : (dats m 0 c).arrAt 14 (cfgs 0).N = XK m c := by
  refine (dats m 0 c).arrAt_eq_of_covers 14 _ (by decide +kernel) fun t _ y => ?_
  blk_simp
  rw [after0_14, out_x]
  have hy : y = (ix3 0 (y 1) (y 2) : S1x512x1024.Idx) := by
    funext a
    fin_cases a
    · exact Subsingleton.elim (α := Fin 1) _ _
    · rfl
    · rfl
  rw [hy]
  have e : ∀ (f : FVec Ideal S512x1024 .f32) (r : Fin 512) (l : Fin 1024), shapeCast S1x512x1024 f shapeCasts_S512x1024_S1x512x1024 (ix3 0 r l) = f (ix2 r l) := fun f r l => by
    pointwise
  refine (e _ (y 1) (y 2)).trans ((x_pt m c t (y 1) (y 2)).trans ?_)
  blk_point [idx t, bat, qua, row]

/-- The second norm's array. -/
theorem final15 : (dats m 0 c).arrAt 15 (cfgs 0).N = (truncf .bf16 (HK m c) bitsLt_bf16_f32 : FVec Ideal Cert.Reference3Ideal.S16x2048x1024 .bf16) := by
  refine (dats m 0 c).arrAt_eq_of_covers 15 _ (by decide +kernel) fun t _ y => ?_
  blk_simp
  rw [after0_15, out_h]
  have hy : y = (ix3 0 (y 1) (y 2) : S1x512x1024.Idx) := by
    funext a
    fin_cases a
    · exact Subsingleton.elim (α := Fin 1) _ _
    · rfl
    · rfl
  rw [hy]
  have e : ∀ (f : FVec Ideal S512x1024 .f32) (r : Fin 512) (l : Fin 1024),
      shapeCast S1x512x1024 (truncf .bf16 f bitsLt_bf16_f32) shapeCasts_S512x1024_S1x512x1024 (ix3 0 r l) = f (ix2 r l) := fun f r l => by
    pointwise
  refine (e _ (y 1) (y 2)).trans ((h_pt m c t (y 1) (y 2)).trans ?_)
  show HK m c _ = HK m c _
  blk_point [idx t, bat, qua, row]

variable (f10 : ∀ i, IsR ((m ((c.tc : Thread nD τ).loc main_arg10) : FVec Ideal Cert.Reference3Ideal.S1024 .f32) i))
  (f11 : ∀ i, IsR ((m ((c.tc : Thread nD τ).loc main_arg11) : FVec Ideal Cert.Reference3Ideal.S16x1x1024 .f32) i))
  (f12 : ∀ i, IsR ((m ((c.tc : Thread nD τ).loc main_arg12) : FVec Ideal Cert.Reference3Ideal.S16x1x1024 .f32) i))
  (f13 : ∀ i, IsR (RW m c i))

include f10 f11 f12 f13 in
theorem l_pt (e : Fin 16) (r : Fin 512) :
    out0_16 (iblk m c 0 t) (iblk m c 1 t) (iblk m c 2 t) (iblk m c 3 t) (iblk m c 4 t) (iblk m c 5 t) (iblk m c 6 t) (iblk m c 7 t) (iblk m c 8 t) (iblk m c 9 t)
        (iblk m c 10 t) (iblk m c 11 t) (iblk m c 12 t) (iblk m c 13 t) (ix3 0 e r)
      = LG (HK m c) (RW m c) (ix3 (bat t) e (row (qua t) r)) := by
  rw [out_l, LG_at]
  refine Eq.trans ?_ (split_sum (fun x => HK m c (ix3 (bat t) (row (qua t) r) x)) (fun x => RW m c (ix2 x e))
    (fun x => MN_isR _ _ _ _ f10 f11 f12 _ _ _) (fun x => f13 _))
  simp only [h_pt, hi_blk, lo_blk]

include f10 f11 f12 f13 in
/-- The logits' array. -/
theorem final16 : (dats m 0 c).arrAt 16 (cfgs 0).N = LG (HK m c) (RW m c) := by
  refine (dats m 0 c).arrAt_eq_of_covers 16 _ (by decide +kernel) fun t _ y => ?_
  blk_simp
  rw [after0_16]
  have hy : y = (ix3 0 (y 1) (y 2) : S1x16x512.Idx) := by
    funext a
    fin_cases a
    · exact Subsingleton.elim (α := Fin 1) _ _
    · rfl
    · rfl
  rw [hy]
  refine (l_pt m c t f10 f11 f12 f13 (y 1) (y 2)).trans ?_
  blk_point [idx t, bat, qua, row]

end Cert.Kernel3Ideal.Gm

end
-- ==== Proof.GmClaim.lean ====
/- The gated MLP's call: over a finite second norm and router, kernel and reference compute the same three results over the extended reals. -/
module

public import proofs.«01_k».proof.Defs
public import proofs.«01_k».proof.Proof.GmFinal
public import proofs.«01_k».proof.Proof.DaClaim

@[expose] public section

set_option maxRecDepth 16384

noncomputable section

namespace Cert.Kernel3Ideal.Gm

open Idealize.ShloMosaic Idealize.SL.Sem
open Cert.DaMath
open Cert.KernelIdeal.Da (isR_of_abs and_one)

/-- The side conditions of the precondition's own program. -/
theorem finite3_facts : Cert.Pre_finite3.Facts where
  bcast_S_S1024 := by decide
  reducesTo_S1024_S_d0 := by decide
  h_S_ := by decide
  bcast_S_S16x1x1024 := by decide
  reducesTo_S16x1x1024_S_d0_1_2 := by decide
  bcast_S_S1024x16 := by decide
  reducesTo_S1024x16_S_d0_1 := by decide

instance : Cert.Pre_finite3.Facts := finite3_facts

/-- The precondition, read: the second norm's weights, its modulation and the router's weights hold reals only. -/
theorem finite3_read (A0 : FVec Ideal Cert.Pre_finite3.S16x2048x1024 .f32) (A1 : FVec Ideal Cert.Pre_finite3.S1024 .f32) (A2 A3 : FVec Ideal Cert.Pre_finite3.S16x1x1024 .f32)
    (A4 : FVec Ideal Cert.Pre_finite3.S1x1024x4096 .f32) (A5 : FVec Ideal Cert.Pre_finite3.S1x2048 .f32) (A6 : FVec Ideal Cert.Pre_finite3.S1x8x128x128 .f32)
    (A7 : FVec Ideal Cert.Pre_finite3.S1x8x128 .f32) (A8 : FVec Ideal Cert.Pre_finite3.S1x2048x1024 .f32) (A9 : FVec Ideal Cert.Pre_finite3.S16x1x1024 .f32)
    (A10 : FVec Ideal Cert.Pre_finite3.S1024 .f32) (A11 A12 : FVec Ideal Cert.Pre_finite3.S16x1x1024 .f32) (A13 : FVec Ideal Cert.Pre_finite3.S1024x16 .f32)
    (h : Cert.Pre_finite3.fn (F := Ideal) A0 A1 A2 A3 A4 A5 A6 A7 A8 A9 A10 A11 A12 A13 = fun _ => 1#1) :
    (∀ i, IsR (A10 i)) ∧ (∀ i, IsR (A11 i)) ∧ (∀ i, IsR (A12 i)) ∧ (∀ i, IsR (A13 i)) := by
  have h := congrFun h ix0
  dsimp only [Cert.Pre_finite3.fn, Cert.Pre_finite3.fn_part1] at h
  obtain ⟨h, h3⟩ := and_one h
  obtain ⟨h, h2⟩ := and_one h
  obtain ⟨h, h1⟩ := and_one h
  obtain ⟨h, h0⟩ := and_one h
  haveI : Subsingleton Cert.Pre_finite3.S_.Idx := ⟨fun a b => funext fun i => i.elim0⟩
  exact ⟨fun i => isR_of_abs (Host.reduce_andi_all _ _ _ _ _ h0 i), fun i => isR_of_abs (Host.reduce_andi_all _ _ _ _ _ h1 i),
    fun i => isR_of_abs (Host.reduce_andi_all _ _ _ _ _ h2 i), fun i => isR_of_abs (Host.reduce_andi_all _ _ _ _ _ h3 i)⟩

/-- The kernel's frame, under the precondition. -/
theorem frame_finite3 : Cert.quiescent_Kernel3Ideal_pre_finite3 := fun m g _ => Cert.Kernel3Ideal.Gen.frame m g

/-- The reference's frame, under the precondition. -/
theorem frame_reference_finite3 : Cert.quiescent_Reference3Ideal_pre_finite3 := fun m g _ => Cert.Proof.frame_reference3 m g trivial

set_option maxHeartbeats 1600000 in
/-- From memories that agree on the arguments, the kernel's three arrays end at the reference's. -/
theorem algebraic : Cert.algebraic_Kernel3Ideal_Reference3Ideal_pre_finite3 := by
  pair_intro
  · run_from Cert.Kernel3Ideal.Gen.run_main m g
    all_goals
      first
      | exact Gen.V_main_arg1 m c
      | exact Gen.V_main_arg4 m c
      | exact Gen.V_main_arg5 m c
      | exact Gen.V_main_arg6 m c
      | exact Gen.V_main_arg7 m c
      | exact Gen.V_main_arg8 m c
      | exact Gen.V_main_arg10 m c
      | exact Gen.V_main_arg13 m c
      | exact (hc.1 ⟨16, by decide⟩ : _)
  · run_from Cert.Reference3Ideal.Value.run m' g'
    all_goals obtain ⟨f10, f11, f12, f13⟩ := finite3_read _ _ _ _ _ _ _ _ _ _ _ _ _ _ (hpre c)
    all_goals obtain ⟨e0, e1, e2, e3, e4, e5, e6, e7, e8, e9, e10, e11, e12, e13⟩ := hagree c
    · refine (Cert.Reference3Ideal.Gm.x_eq m' c).trans ?_
      unfold Cert.Reference3Ideal.Gm.X1m
      rw [e0, e1, e2, e3, e4, e5, e6, e7, e8, e9]
      exact (final14 m c).symm
    · refine (Cert.Reference3Ideal.Gm.h_eq m' c).trans ?_
      unfold Cert.Reference3Ideal.Gm.H1m Cert.Reference3Ideal.Gm.X1m
      rw [e0, e1, e2, e3, e4, e5, e6, e7, e8, e9, e10, e11, e12]
      exact (final15 m c).symm
    · refine (Cert.Reference3Ideal.Gm.l_eq m' c).trans ?_
      unfold Cert.Reference3Ideal.Gm.H1m Cert.Reference3Ideal.Gm.X1m
      rw [e0, e1, e2, e3, e4, e5, e6, e7, e8, e9, e10, e11, e12, e13]
      exact (final16 m c f10 f11 f12 f13).symm

end Cert.Kernel3Ideal.Gm

end
-- ==== Proof.LnPoint.lean ====
/- The projection's block over the extended reals, one index at a time, and what each window stages at a point. -/
module

public import proofs.«01_k».proof.Proof.Gen.Kernel4Ideal.Frame
public import Idealize.ShloMosaic.Lib.Pipeline.ValueKit
public import Idealize.ShloMosaic.Lib.StableHlo.ReadAt

@[expose] public section

set_option maxRecDepth 16384

noncomputable section

namespace Cert.Kernel4Ideal.Ln

open Idealize.ShloMosaic Idealize.ShloMosaic.TcCoe Idealize.SL.Sem
open Cert.Kernel4Ideal Cert.Kernel4Ideal.Gen

theorem norm_at (x0 : Vec Ideal S1x1024x1024 .f32) (g : Vec Ideal S1x1024 .f32) (sc sh : Vec Ideal S1x1x1024 .f32) (r : Fin 1024) (x : Fin 1024) :
    k0_pay3 x0 g sc sh (ix2 r x) = x0 (ix3 0 r x) * Ideal.rsqrt (Ideal.div (∑ x, x0 (ix3 0 r x) * x0 (ix3 0 r x)) (Ideal.ofBits FTy.f32 0x44800000#32) + Ideal.ofBits FTy.f32 0x358637BD#32)
      * g (ix2 0 x) * (1 + sc (ix3 0 0 x)) + sh (ix3 0 0 x) := by
  pointwise [k0_pay3]

theorem prod_at (H w : FVec Ideal S1024x1024 .bf16) (r l : Fin 1024) : k0_pay1 H w (ix3 0 r l) = ∑ x, H (ix2 r x) * w (ix2 x l) := by
  pointwise [k0_pay1]

/-- A block of rows times all the columns of the weights. -/
def whole (H : FVec Ideal S1024x1024 .bf16) (W : Vec Ideal S1024x3072 .bf16) : Vec Ideal S1x1024x3072 .bf16 :=
  fun y => ∑ x : Fin 1024, H (ix2 (y 1 : Fin 1024) x) * W (ix2 x (y 2 : Fin 3072))

/-- A store of 1024 columns is those columns of the whole product. -/
theorem piece (H : FVec Ideal S1024x1024 .bf16) (W : Vec Ideal S1024x3072 .bf16) (o : ℕ) (ho : o ≤ 2048)
    (hw : ∀ a, (![0, o] : Fin 2 → Nat) a + S1024x1024.size a ≤ S1024x3072.size a)
    (hy : ∀ a, (![0, 0, o] : Fin 3 → Nat) a + S1x1024x1024.size a ≤ S1x1024x3072.size a) (i : S1x1024x1024.Idx) :
    k0_pay1 H (View.ld W (Rect.unit (s := S1024x3072) ![0, o] S1024x1024.size hw)) i
      = whole H W ((Rect.unit (s := S1x1024x3072) ![0, 0, o] S1x1024x1024.size hy).emb i) := by
  have hi : i = (ix3 0 (i 1) (i 2) : S1x1024x1024.Idx) := by
    funext a
    fin_cases a
    · exact Subsingleton.elim (α := Fin 1) _ _
    · rfl
    · rfl
  rw [hi]
  refine (prod_at H _ (i 1) (i 2)).trans ?_
  unfold whole
  refine Finset.sum_congr rfl fun x _ => congrArg₂ (· * ·) (congrArg H ?_) ((View.ld_apply _ _ _).trans (congrArg W ?_))
  · funext a
    apply Fin.ext
    fin_cases a
    · show (i 1).val = 0 + 1 * (i 1).val; omega
    · rfl
  · funext a
    apply Fin.ext
    fin_cases a
    · show 0 + 1 * x.val = x.val; omega
    · rfl

section
variable (x0 : Vec Ideal S1x1024x1024 .f32) (x1 : Vec Ideal S1x1024 .f32) (x2 x3 : Vec Ideal S1x1x1024 .f32) (x4 : Vec Ideal S1024x3072 .bf16)

theorem ld0 : View.ld x0 r0_0 = x0 := View.ld_unit_lit _ x0 (by decide)
theorem ld1 : View.ld x1 r0_1 = x1 := View.ld_unit_lit _ x1 (by decide)
theorem ld2 : View.ld x2 r0_2 = x2 := View.ld_unit_lit _ x2 (by decide)

/-- What a point leaves: its rows' norm times all the weights. -/
theorem out_eq : out0_5 x0 x1 x2 x3 x4 = whole (k0_pay3 x0 x1 x3 x2) x4 := by
  unfold out0_5 k0_pay5
  rw [ld0, ld1, ld2, ld2]
  funext y
  refine View.canon_apply_of_pieces _ _ (fun p hp i => ?_) y (cover0_5 _ _ _ y)
  simp only [List.mem_cons, List.not_mem_nil, or_false] at hp
  rcases hp with rfl | rfl | rfl
  · exact piece _ x4 2048 (by omega) inb_S1024x3072_S1024x1024_0_2048 inb_S1x1024x3072_S1x1024x1024_0_0_2048 i
  · exact piece _ x4 1024 (by omega) inb_S1024x3072_S1024x1024_0_1024 inb_S1x1024x3072_S1x1024x1024_0_0_1024 i
  · exact piece _ x4 0 (by omega) inb_S1024x3072_S1024x1024_0_0 inb_S1x1024x3072_S1x1024x1024_0_0_0 i
end

variable (m : (ℓ : Loc nD τ sig) → Buf (Elt Ideal) ℓ) (c : Dev nD) (t : Fin cfg0.N)

/-- Which block each window stages at point t: batch t / 2, half t % 2. -/
theorem idx : ∀ t : Fin cfg0.N, win0_0.index t = ![t.val / 2, t.val % 2, 0] ∧ win0_1.index t = ![0, 0] ∧ win0_2.index t = ![t.val / 2, 0, 0]
    ∧ win0_3.index t = ![t.val / 2, 0, 0] ∧ win0_4.index t = ![0, 0] ∧ win0_5.index t = ![t.val / 2, t.val % 2, 0] :=
  (by decide +kernel : ∀ t : Fin grid0.N, _)

theorem t_lt : t.val < 32 := t.isLt

/-- The batch of a point, and a row of its half. -/
def bat : Fin 16 := ⟨t.val / 2, by have := t_lt t; omega⟩
def row (r : Fin 1024) : Fin 2048 := ⟨t.val % 2 * 1024 + r.val, by omega⟩

theorem x_blk (n : Fin 1024) (l : Fin 1024) : iblk m c 0 t (ix3 0 n l) = m ((c.tc : Thread nD τ).loc main_arg0) (ix3 (bat t) (row t n) l) := by
  blk_point [iblk, V, idx t, bat, row]

theorem g_host (l : Fin 1024) : V m c main_v2 (ix2 0 l) = m ((c.tc : Thread nD τ).loc main_arg1) (ix1 l) := by
  unfold V
  after_reads_at

theorem g_blk (l : Fin 1024) : iblk m c 1 t (ix2 0 l) = m ((c.tc : Thread nD τ).loc main_arg1) (ix1 l) := by
  rw [← g_host m c]
  blk_point [iblk, idx t]

theorem sh_blk (l : Fin 1024) : iblk m c 2 t (ix3 0 0 l) = m ((c.tc : Thread nD τ).loc main_arg2) (ix3 (bat t) 0 l) := by
  blk_point [iblk, V, idx t, bat]

theorem sc_blk (l : Fin 1024) : iblk m c 3 t (ix3 0 0 l) = m ((c.tc : Thread nD τ).loc main_arg3) (ix3 (bat t) 0 l) := by
  blk_point [iblk, V, idx t, bat]

theorem w_host (x : Fin 1024) (f : Fin 3072) : V m c main_v1 (ix2 x f) = m ((c.tc : Thread nD τ).loc main_arg4) (ix3 0 x f) := by
  unfold V
  after_reads_at

theorem w_blk (x : Fin 1024) (f : Fin 3072) : iblk m c 4 t (ix2 x f) = m ((c.tc : Thread nD τ).loc main_arg4) (ix3 0 x f) := by
  rw [← w_host m c]
  blk_point [iblk, idx t]

end Cert.Kernel4Ideal.Ln

end
-- ==== Proof.LnRef.lean ====
/- The projection's reference, one index at a time: the modulated norm of the rows, times the weights. -/
module

public import proofs.«01_k».proof.Proof.Gen.Reference4Ideal.Run
public import proofs.«01_k».proof.Proof.GmRef

@[expose] public section

set_option maxRecDepth 16384

noncomputable section

namespace Cert.Reference4Ideal.Ln

open Idealize.ShloMosaic Idealize.ShloMosaic.TcCoe Idealize.SL.Sem
open Cert.Reference4Ideal Cert.Reference4Ideal.Gen
open Cert.Reference3Ideal.Gm (MN MN_at)

/-- The product with the weights. -/
def PR (H : FVec Ideal S16x2048x1024 .f32) (W : FVec Ideal S1x1024x3072 .f32) : FVec Ideal S16x2048x3072 .f32 :=
  Host.dotGeneral dot_S16x2048x1024_S1024x3072_S16x2048x3072_2_0_01_1_n_n none H (shapeCast S1024x3072 W shapeCasts_S1x1024x3072_S1024x3072)

theorem PR_at (H : FVec Ideal S16x2048x1024 .f32) (W : FVec Ideal S1x1024x3072 .f32) (b : Fin 16) (n : Fin 2048) (f : Fin 3072) :
    PR H W (ix3 b n f) = ∑ x, H (ix3 b n x) * W (ix3 0 x f) := by
  pointwise [PR]

/-- The reference's result, over its arguments. -/
def Q (A0 : FVec Ideal S16x2048x1024 .f32) (A1 : FVec Ideal S1024 .f32) (A2 A3 : FVec Ideal S16x1x1024 .f32) (A4 : FVec Ideal S1x1024x3072 .f32) :
    FVec Ideal S16x2048x3072 .bf16 :=
  truncf .bf16 (PR (MN A0 A1 A2 A3) A4) bitsLt_bf16_f32

theorem Q_at (A0 : FVec Ideal S16x2048x1024 .f32) (A1 : FVec Ideal S1024 .f32) (A2 A3 : FVec Ideal S16x1x1024 .f32) (A4 : FVec Ideal S1x1024x3072 .f32)
    (b : Fin 16) (n : Fin 2048) (f : Fin 3072) :
    Q A0 A1 A2 A3 A4 (ix3 b n f) = ∑ x, MN A0 A1 A2 A3 (ix3 b n x) * A4 (ix3 0 x f) :=
  PR_at (MN A0 A1 A2 A3) A4 b n f

end Cert.Reference4Ideal.Ln

end
-- ==== Proof.LnClaim.lean ====
/- The projection's call: kernel and reference compute the same array over the extended reals. -/
module

public import proofs.«01_k».proof.Defs
public import proofs.«01_k».proof.Proof.Gen.Kernel4Ideal.Value
public import proofs.«01_k».proof.Proof.LnPoint
public import proofs.«01_k».proof.Proof.LnRef

@[expose] public section

set_option maxRecDepth 16384

noncomputable section

namespace Cert.Kernel4Ideal.Ln

open Idealize.ShloMosaic Idealize.ShloMosaic.TcCoe Idealize.SL.Sem
open Cert.Kernel4Ideal Cert.Kernel4Ideal.Gen
open Cert.Reference4Ideal.Ln (Q Q_at)
open Cert.Reference3Ideal.Gm (MN_at)

variable (m : (ℓ : Loc nD τ sig) → Buf (Elt Ideal) ℓ) (c : Dev nD) (t : Fin cfg0.N)

/-- The reference's result, of the kernel's arguments. -/
abbrev QK : FVec Ideal Cert.Reference4Ideal.S16x2048x3072 .bf16 :=
  Q (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

/-- A point's block is the reference's rows of its half of its batch. -/
theorem q_pt (r : Fin 1024) (l : Fin 3072) :
    whole (k0_pay3 (iblk m c 0 t) (iblk m c 1 t) (iblk m c 3 t) (iblk m c 2 t)) (iblk m c 4 t) (ix3 0 r l) = QK m c (ix3 (bat t) (row t r) l) := by
  refine Eq.trans ?_ (Q_at _ _ _ _ _ (bat t) (row t r) l).symm
  refine Finset.sum_congr rfl fun x _ => ?_
  refine congrArg₂ (· * ·) ((norm_at _ _ _ _ r x).trans ?_) (w_blk m c t x l)
  rw [MN_at]
  simp only [x_blk, g_blk, sh_blk, sc_blk]

/-- The result array. -/
theorem final5 : (dats m 0 c).arrAt 5 (cfgs 0).N = QK m c := by
  refine (dats m 0 c).arrAt_eq_of_covers 5 _ (by decide +kernel) fun t _ y => ?_
  blk_simp
  rw [after0_5, out_eq]
  have hy : y = (ix3 0 (y 1) (y 2) : S1x1024x3072.Idx) := by
    funext a
    fin_cases a
    · exact Subsingleton.elim (α := Fin 1) _ _
    · rfl
    · rfl
  rw [hy]
  refine (q_pt m c t (y 1) (y 2)).trans ?_
  blk_point [idx t, bat, row]

/-- The reference's frame. -/
theorem frame_reference4 : Cert.quiescent_Reference4Ideal := by
  intro m g _
  exact (θ_run Cert.Reference4Ideal.defs _ _).mono (fun r h => ⟨fun c => (h c).2, sem_eq_zero_of_no_sems (by decide) r.2⟩)
    (Cert.Reference4Ideal.Value.run (F := Ideal) m g)

/-- From memories that agree on the arguments, the kernel's array ends at the reference's. -/
theorem algebraic : Cert.algebraic_Kernel4Ideal_Reference4Ideal := by
  pair_intro
  · run_from Cert.Kernel4Ideal.Value.run_blocks m g
  · run_from Cert.Reference4Ideal.Value.run m' g'
    exact (final5 m c).symm

end Cert.Kernel4Ideal.Ln

end
-- ==== Proof.OpPoint.lean ====
/- The output projection's block over the extended reals, one index at a time, and what a point leaves in its three blocks. -/
module

public import proofs.«01_k».proof.Proof.Gen.Kernel5Ideal.Frame
public import Idealize.ShloMosaic.Lib.Pipeline.ValueKit

@[expose] public section

set_option maxRecDepth 16384

noncomputable section

namespace Cert.Kernel5Ideal.Op

open Idealize.ShloMosaic Idealize.ShloMosaic.TcCoe Idealize.SL.Sem
open Cert.Kernel5Ideal Cert.Kernel5Ideal.Gen

theorem y_at (o : Vec Ideal S1x1024x1024 .bf16) (W : Vec Ideal S1024x1024 .bf16) (x : Vec Ideal S1x1024x1024 .f32) (gate : Vec Ideal S1x1x1024 .f32) (r l : Fin 1024) :
    k0_pay5 o W x gate (ix3 0 r l) = x (ix3 0 r l) + gate (ix3 0 0 l) * ∑ f, o (ix3 0 r f) * W (ix2 f l) := by
  pointwise [k0_pay5]

theorem n_at (y : Vec Ideal S1x1024x1024 .f32) (g : Vec Ideal S1x1024 .f32) (r l : Fin 1024) :
    k0_pay6 y g (ix2 r l) = y (ix3 0 r l) * Ideal.rsqrt (Ideal.div (∑ x, y (ix3 0 r x) * y (ix3 0 r x)) (Ideal.ofBits FTy.f32 0x44800000#32) + Ideal.ofBits FTy.f32 0x358637BD#32)
      * g (ix2 0 l) := by
  pointwise [k0_pay6]

theorem h_at (n : FVec Ideal S1024x1024 .f32) (sc sh : Vec Ideal S1x1x1024 .f32) (r l : Fin 1024) :
    k0_pay1 n sc sh (ix2 r l) = n (ix2 r l) * (1 + sc (ix3 0 0 l)) + sh (ix3 0 0 l) := by
  pointwise [k0_pay1]

theorem s_at (n : FVec Ideal S1024x1024 .f32) (sc sh : Vec Ideal S1x1x1024 .f32) (r l : Fin 1024) :
    k0_pay3 n sc sh (ix3 0 r l) = k0_pay1 n sc sh (ix2 r l) := by
  pointwise [k0_pay3, k0_pay2]

theorem l_at (n : FVec Ideal S1024x1024 .f32) (sc sh : Vec Ideal S1x1x1024 .f32) (w : Vec Ideal S1024x256 .bf16) (w' : Vec Ideal S1024x128 .bf16) (e : Fin 16) (r : Fin 1024) :
    k0_pay4 n sc sh w w' (ix3 0 e r) = (∑ x, k0_pay1 n sc sh (ix2 r x) * w (ix2 x ⟨e.val, by omega⟩)) + (∑ x, k0_pay1 n sc sh (ix2 r x) * w (ix2 x ⟨128 + e.val, by omega⟩))
      + ∑ x, (k0_pay1 n sc sh (ix2 r x) - k0_pay1 n sc sh (ix2 r x)) * w' (ix2 x ⟨e.val, by omega⟩) := by
  pointwise [k0_pay4, k0_pay2]

/-- A load of a whole window reads what the window holds. -/
theorem load_whole {s : Shape} {e : EltTy} {mr : Memref sig .tc .vmem s e} (h : mr.IsWhole) (X : s.Idx → Elt Ideal e) {off : Fin s.rank → ℕ}
    (inb : ∀ a, off a + s.size a ≤ s.size a) (h0 : off = fun _ => 0) :
    mr.view.readAt (Elt Ideal) (Rect.unit (s := s) off s.size inb).toLoadRect (h.unread X) = X := by
  subst h0
  funext j
  rw [View.readAt_apply, h.read_unread]
  refine congrArg X (funext fun a => Fin.ext ?_)
  show 0 + 1 * (j a).val = (j a).val
  omega

section
variable (c : Dev nD) (i : grid0.Coords) (arg2 : Memref sig .tc .vmem S1x1024x1024 .bf16) (harg2 : arg2.IsWhole) (arg3 : Memref sig .tc .vmem S1024x1024 .bf16) (harg3 : arg3.IsWhole)
  (arg4 : Memref sig .tc .vmem S1x1024x1024 .f32) (harg4 : arg4.IsWhole) (arg5 : Memref sig .tc .vmem S1x1x1024 .f32) (harg5 : arg5.IsWhole)
  (arg6 : Memref sig .tc .vmem S1x1024 .f32) (harg6 : arg6.IsWhole) (arg7 : Memref sig .tc .vmem S1x1x1024 .f32) (harg7 : arg7.IsWhole)
  (arg8 : Memref sig .tc .vmem S1x1x1024 .f32) (harg8 : arg8.IsWhole) (arg9 : Memref sig .tc .vmem S1024x256 .bf16) (harg9 : arg9.IsWhole)
  (arg10 : Memref sig .tc .vmem S1x1024x1024 .f32) (harg10 : arg10.IsWhole) (arg11 : Memref sig .tc .vmem S1x1024x1024 .bf16) (harg11 : arg11.IsWhole)
  (arg12 : Memref sig .tc .vmem S1x16x1024 .f32) (harg12 : arg12.IsWhole)
  (x0 : Vec Ideal S1x1024x1024 .bf16) (x1 : Vec Ideal S1024x1024 .bf16) (x2 : Vec Ideal S1x1024x1024 .f32) (x3 : Vec Ideal S1x1x1024 .f32) (x4 : Vec Ideal S1x1024 .f32)
  (x5 x6 : Vec Ideal S1x1x1024 .f32) (x7 : Vec Ideal S1024x256 .bf16)

theorem zero3 : (![0, 0, 0] : Fin 3 → ℕ) = fun _ => 0 := by decide
theorem zero2 : (![0, 0] : Fin 2 → ℕ) = fun _ => 0 := by decide

/-- The one store to the stream's block. -/
theorem stream_store : kernelRun0_A.sl.H8_1 c arg2 harg2 arg3 harg3 arg4 harg4 arg5 harg5 x0 x1 x2 x3
    = [⟨Rect.unit (s := S1x1024x1024) ![0, 0, 0] S1x1024x1024.size inb_S1x1024x1024_S1x1024x1024_0_0_0, k0_pay5 x0 x1 x2 x3⟩] := by
  unfold kernelRun0_A.sl.H8_1
  rw [load_whole harg2 x0 _ zero3, load_whole harg3 x1 _ zero2, load_whole harg4 x2 _ zero3, load_whole harg5 x3 _ zero3]

/-- The stream read back, normed and weighted. -/
theorem norm_load : kernelRun0_A.sl.r c arg2 harg2 arg3 harg3 arg4 harg4 arg5 harg5 arg6 harg6 arg10 x0 x1 x2 x3 x4 = k0_pay6 (k0_pay5 x0 x1 x2 x3) x4 := by
  unfold kernelRun0_A.sl.r kernelRun0_A.sl.v15
  rw [load_whole harg6 x4 _ zero2, stream_store]
  exact congrArg (k0_pay6 · x4) (View.readCov_cons_toLoadRect _ _ _ _)

/-- What a point leaves of the stream. -/
theorem out_x : out0_A_8 c i arg2 harg2 arg3 harg3 arg4 harg4 arg5 harg5 arg6 harg6 arg7 harg7 arg8 harg8 arg9 harg9 arg10 harg10 arg11 harg11 arg12 harg12 x0 x1 x2 x3 x4 x5 x6 x7
    = k0_pay5 x0 x1 x2 x3 := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 x0 x1 x2 x3 x4 x5 x6 x7)]
  refine (congrArg View.canon (stream_store c arg2 harg2 arg3 harg3 arg4 harg4 arg5 harg5 x0 x1 x2 x3)).trans ?_
  exact View.canon_cons_unit_lit _ _ _ (by decide)

/-- What a point leaves of the norm. -/
theorem out_h : out0_A_9 c i arg2 harg2 arg3 harg3 arg4 harg4 arg5 harg5 arg6 harg6 arg7 harg7 arg8 harg8 arg9 harg9 arg10 harg10 arg11 harg11 arg12 harg12 x0 x1 x2 x3 x4 x5 x6 x7
    = k0_pay3 (k0_pay6 (k0_pay5 x0 x1 x2 x3) x4) x6 x5 := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 x0 x1 x2 x3 x4 x5 x6 x7)]
  refine (View.canon_cons_unit_lit _ _ _ (by decide)).trans ?_
  rw [norm_load, load_whole harg8 x6 _ zero3, load_whole harg7 x5 _ zero3]

theorem half (x : Fin 1024) (e : Fin 128) :
    (arg9.view.readAt (Elt Ideal) (Rect.unit (s := S1024x256) ![0, 0] S1024x128.size inb_S1024x256_S1024x128_0_0).toLoadRect (harg9.unread x7) : Vec Ideal S1024x128 .bf16) (ix2 x e)
      = x7 (ix2 x ⟨e.val, by omega⟩) := by
  rw [View.readAt_apply, harg9.read_unread]
  refine congrArg x7 (funext fun a => Fin.ext ?_)
  fin_cases a
  · show 0 + 1 * x.val = x.val; omega
  · show 0 + 1 * e.val = e.val; omega

/-- What a point leaves of the logits. -/
theorem out_l (e : Fin 16) (r : Fin 1024) :
    out0_A_10 c i arg2 harg2 arg3 harg3 arg4 harg4 arg5 harg5 arg6 harg6 arg7 harg7 arg8 harg8 arg9 harg9 arg10 harg10 arg11 harg11 arg12 harg12 x0 x1 x2 x3 x4 x5 x6 x7 (ix3 0 e r)
    = (∑ x, k0_pay1 (k0_pay6 (k0_pay5 x0 x1 x2 x3) x4) x6 x5 (ix2 r x) * x7 (ix2 x ⟨e.val, by omega⟩))
      + (∑ x, k0_pay1 (k0_pay6 (k0_pay5 x0 x1 x2 x3) x4) x6 x5 (ix2 r x) * x7 (ix2 x ⟨128 + e.val, by omega⟩))
      + ∑ x, (k0_pay1 (k0_pay6 (k0_pay5 x0 x1 x2 x3) x4) x6 x5 (ix2 r x) - k0_pay1 (k0_pay6 (k0_pay5 x0 x1 x2 x3) x4) x6 x5 (ix2 r x)) * x7 (ix2 x ⟨e.val, by omega⟩) := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 x0 x1 x2 x3 x4 x5 x6 x7)]
  refine (congrFun (View.canon_cons_unit_lit _ _ _ (by decide)) _).trans ?_
  rw [norm_load, load_whole harg8 x6 _ zero3, load_whole harg7 x5 _ zero3, load_whole harg9 x7 _ zero2]
  refine (l_at _ _ _ _ _ e r).trans (congrArg₂ (· + ·) rfl ?_)
  exact Finset.sum_congr rfl fun x _ => congrArg₂ (· * ·) rfl (half arg9 harg9 x7 x ⟨e.val, by omega⟩)
end

end Cert.Kernel5Ideal.Op

end
-- ==== Proof.OpRef.lean ====
/- The output projection's reference, one index at a time. -/
module

public import proofs.«01_k».proof.Proof.Gen.Reference5Ideal.Run
public import proofs.«01_k».proof.Proof.GmRef

@[expose] public section

set_option maxRecDepth 16384

noncomputable section

namespace Cert.Reference5Ideal.Op

open Idealize.ShloMosaic Idealize.ShloMosaic.TcCoe Idealize.SL.Sem
open Cert.Reference5Ideal Cert.Reference5Ideal.Gen
open Cert.Reference3Ideal.Gm (MN LG)

/-- The stream with the gated product of the heads' outputs and the weights added. -/
def X5 (O : FVec Ideal S16x2048x1024 .bf16) (W : FVec Ideal S1x1024x1024 .f32) (X : FVec Ideal S16x2048x1024 .f32) (gate : FVec Ideal S16x1x1024 .f32) :
    FVec Ideal S16x2048x1024 .f32 :=
  addf X (mulf (broadcastInDim S16x2048x1024 ![0, 1, 2] bcast_S16x1x1024_S16x2048x1024_0_1_2 gate)
    (Host.dotGeneral dot_S16x2048x1024_S1024x1024_S16x2048x1024_2_0_01_1_n_n none (extf .f32 O bitsLt_bf16_f32)
      (shapeCast S1024x1024 W shapeCasts_S1x1024x1024_S1024x1024)))

theorem X5_at (O : FVec Ideal S16x2048x1024 .bf16) (W : FVec Ideal S1x1024x1024 .f32) (X : FVec Ideal S16x2048x1024 .f32) (gate : FVec Ideal S16x1x1024 .f32)
    (b : Fin 16) (n : Fin 2048) (l : Fin 1024) :
    X5 O W X gate (ix3 b n l) = X (ix3 b n l) + gate (ix3 b 0 l) * ∑ f, O (ix3 b n f) * W (ix3 0 f l) := by
  pointwise [X5]

end Cert.Reference5Ideal.Op

end
-- ==== Proof.OpFinal.lean ====
/- What each window of the output projection's call stages at a point, and its three arrays: the reference's, of the kernel's arguments. -/
module

public import proofs.«01_k».proof.Proof.OpPoint
public import proofs.«01_k».proof.Proof.OpRef
public import proofs.«01_k».proof.Proof.GmValue
public import Idealize.ShloMosaic.Lib.StableHlo.ReadAt

@[expose] public section

set_option maxRecDepth 16384

noncomputable section

namespace Cert.Kernel5Ideal.Op

open Idealize.ShloMosaic Idealize.ShloMosaic.TcCoe Idealize.SL.Sem
open Cert.Kernel5Ideal Cert.Kernel5Ideal.Gen
open Cert.DaMath
open Cert.Reference3Ideal.Gm (MN LG MN_at LG_at)
open Cert.Kernel3Ideal.Gm (MN_isR split_sum)
open Cert.Reference5Ideal.Op (X5 X5_at)

variable (m : (ℓ : Loc nD τ sig) → Buf (Elt Ideal) ℓ) (c : Dev nD) (t : Fin cfg0.N)

/-- Which block each window stages at point t: batch t / 2, half t % 2. -/
theorem idx : ∀ t : Fin cfg0.N, win0_0.index t = ![t.val / 2, t.val % 2, 0] ∧ win0_1.index t = ![0, 0] ∧ win0_2.index t = ![t.val / 2, t.val % 2, 0]
    ∧ win0_3.index t = ![t.val / 2, 0, 0] ∧ win0_4.index t = ![0, 0] ∧ win0_5.index t = ![t.val / 2, 0, 0] ∧ win0_6.index t = ![t.val / 2, 0, 0]
    ∧ win0_7.index t = ![0, 0] ∧ win0_8.index t = ![t.val / 2, t.val % 2, 0] ∧ win0_9.index t = ![t.val / 2, t.val % 2, 0]
    ∧ win0_10.index t = ![t.val / 2, 0, t.val % 2] :=
  (by decide +kernel : ∀ t : Fin grid0.N, _)

theorem t_lt : t.val < 32 := t.isLt

/-- The batch of a point, and a row of its half. -/
def bat : Fin 16 := ⟨t.val / 2, by have := t_lt t; omega⟩
def row (r : Fin 1024) : Fin 2048 := ⟨t.val % 2 * 1024 + r.val, by omega⟩

theorem o_blk (n : Fin 1024) (l : Fin 1024) : iblk m c 0 t (ix3 0 n l) = m ((c.tc : Thread nD τ).loc main_arg0) (ix3 (bat t) (row t n) l) := by
  blk_point [iblk, V, idx t, bat, row]

theorem w_host (x f : Fin 1024) : V m c main_v1 (ix2 x f) = m ((c.tc : Thread nD τ).loc main_arg1) (ix3 0 x f) := by
  unfold V
  after_reads_at

theorem w_blk (x f : Fin 1024) : iblk m c 1 t (ix2 x f) = m ((c.tc : Thread nD τ).loc main_arg1) (ix3 0 x f) := by
  rw [← w_host m c]
  blk_point [iblk, idx t]

theorem x_blk (n : Fin 1024) (l : Fin 1024) : iblk m c 2 t (ix3 0 n l) = m ((c.tc : Thread nD τ).loc main_arg2) (ix3 (bat t) (row t n) l) := by
  blk_point [iblk, V, idx t, bat, row]

theorem ga_blk (l : Fin 1024) : iblk m c 3 t (ix3 0 0 l) = m ((c.tc : Thread nD τ).loc main_arg3) (ix3 (bat t) 0 l) := by
  blk_point [iblk, V, idx t, bat]

theorem mg_host (l : Fin 1024) : V m c main_v2 (ix2 0 l) = m ((c.tc : Thread nD τ).loc main_arg4) (ix1 l) := by
  unfold V
  after_reads_at

theorem mg_blk (l : Fin 1024) : iblk m c 4 t (ix2 0 l) = m ((c.tc : Thread nD τ).loc main_arg4) (ix1 l) := by
  rw [← mg_host m c]
  blk_point [iblk, idx t]

theorem sh_blk (l : Fin 1024) : iblk m c 5 t (ix3 0 0 l) = m ((c.tc : Thread nD τ).loc main_arg5) (ix3 (bat t) 0 l) := by
  blk_point [iblk, V, idx t, bat]

theorem sc_blk (l : Fin 1024) : iblk m c 6 t (ix3 0 0 l) = m ((c.tc : Thread nD τ).loc main_arg6) (ix3 (bat t) 0 l) := by
  blk_point [iblk, V, idx t, bat]

/-- The router's weights. -/
def RW : FVec Ideal S1024x16 .f32 := m ((c.tc : Thread nD τ).loc main_arg7)

theorem hi_host (x : Fin 1024) (e : Fin 16) : V m c main_v8 (ix2 x ⟨e.val, by omega⟩) = RW m c (ix2 x e) := by
  unfold V
  after_reads_at
  exact dif_pos (by omega)

theorem hi_blk (x : Fin 1024) (e : Fin 16) : iblk m c 7 t (ix2 x ⟨e.val, by omega⟩) = RW m c (ix2 x e) := by
  rw [← hi_host m c]
  blk_point [iblk, idx t]

theorem lo_host (x : Fin 1024) (e : Fin 16) : V m c main_v8 (ix2 x ⟨128 + e.val, by omega⟩) = RW m c (ix2 x e) - RW m c (ix2 x e) := by
  unfold V
  after_reads_at
  rfl

theorem lo_blk (x : Fin 1024) (e : Fin 16) : iblk m c 7 t (ix2 x ⟨128 + e.val, by omega⟩) = RW m c (ix2 x e) - RW m c (ix2 x e) := by
  rw [← lo_host m c]
  blk_point [iblk, idx t]

/-- The reference's stream, of the kernel's arguments. -/
abbrev XK : FVec Ideal Cert.Reference5Ideal.S16x2048x1024 .f32 :=
  X5 (m ((c.tc : Thread nD τ).loc main_arg0)) (m ((c.tc : Thread nD τ).loc main_arg1)) (m ((c.tc : Thread nD τ).loc main_arg2)) (m ((c.tc : Thread nD τ).loc main_arg3))

/-- Its norm. -/
abbrev HK : FVec Ideal Cert.Reference5Ideal.S16x2048x1024 .f32 :=
  MN (XK m c) (m ((c.tc : Thread nD τ).loc main_arg4)) (m ((c.tc : Thread nD τ).loc main_arg5)) (m ((c.tc : Thread nD τ).loc main_arg6))

/-- A point's block of the stream, and of its norm. -/
abbrev Yb : FVec Ideal S1x1024x1024 .f32 := k0_pay5 (iblk m c 0 t) (iblk m c 1 t) (iblk m c 2 t) (iblk m c 3 t)
abbrev Nb : FVec Ideal S1024x1024 .f32 := k0_pay6 (Yb m c t) (iblk m c 4 t)

theorem x_pt (r l : Fin 1024) : Yb m c t (ix3 0 r l) = XK m c (ix3 (bat t) (row t r) l) := by
  refine (y_at _ _ _ _ r l).trans (Eq.trans ?_ (X5_at _ _ _ _ (bat t) (row t r) l).symm)
  refine congrArg₂ (· + ·) (x_blk m c t r l) (congrArg₂ (· * ·) (ga_blk m c t l) (Finset.sum_congr rfl fun f _ => ?_))
  exact congrArg₂ (· * ·) (o_blk m c t r f) (w_blk m c t f l)

theorem h_pt (r l : Fin 1024) : k0_pay1 (Nb m c t) (iblk m c 6 t) (iblk m c 5 t) (ix2 r l) = HK m c (ix3 (bat t) (row t r) l) := by
  refine (h_at _ _ _ r l).trans ?_
  unfold Nb HK
  rw [n_at, MN_at]
  simp only [x_pt, mg_blk, sh_blk, sc_blk]

/-- The stream's array. -/
theorem final8 : (dats m 0 c).arrAt 8 (cfgs 0).N = XK m c := by
  refine (dats m 0 c).arrAt_eq_of_covers 8 _ (by decide +kernel) fun t _ y => ?_
  blk_simp
  rw [after0_8]
  unfold outsAt0
  dsimp only
  rw [out_x]
  have hy : y = (ix3 0 (y 1) (y 2) : S1x1024x1024.Idx) := by
    funext a
    fin_cases a
    · exact Subsingleton.elim (α := Fin 1) _ _
    · rfl
    · rfl
  rw [hy]
  refine (x_pt m c t (y 1) (y 2)).trans ?_
  blk_point [idx t, bat, row]

/-- The norm's array. -/
theorem final9 : (dats m 0 c).arrAt 9 (cfgs 0).N = (truncf .bf16 (HK m c) bitsLt_bf16_f32 : FVec Ideal Cert.Reference5Ideal.S16x2048x1024 .bf16) := by
  refine (dats m 0 c).arrAt_eq_of_covers 9 _ (by decide +kernel) fun t _ y => ?_
  blk_simp
  rw [after0_9]
  unfold outsAt0
  dsimp only
  rw [out_h]
  have hy : y = (ix3 0 (y 1) (y 2) : S1x1024x1024.Idx) := by
    funext a
    fin_cases a
    · exact Subsingleton.elim (α := Fin 1) _ _
    · rfl
    · rfl
  rw [hy]
  refine (s_at _ _ _ (y 1) (y 2)).trans ((h_pt m c t (y 1) (y 2)).trans ?_)
  show HK m c _ = HK m c _
  blk_point [idx t, bat, row]

variable (f4 : ∀ i, IsR ((m ((c.tc : Thread nD τ).loc main_arg4) : FVec Ideal Cert.Reference5Ideal.S1024 .f32) i))
  (f5 : ∀ i, IsR ((m ((c.tc : Thread nD τ).loc main_arg5) : FVec Ideal Cert.Reference5Ideal.S16x1x1024 .f32) i))
  (f6 : ∀ i, IsR ((m ((c.tc : Thread nD τ).loc main_arg6) : FVec Ideal Cert.Reference5Ideal.S16x1x1024 .f32) i))
  (f7 : ∀ i, IsR (RW m c i))

include f4 f5 f6 f7 in
theorem l_pt (e : Fin 16) (r : Fin 1024) : (outsAt0 m c t).2.2 (ix3 0 e r) = LG (HK m c) (RW m c) (ix3 (bat t) e (row t r)) := by
  unfold outsAt0
  dsimp only
  rw [out_l, LG_at]
  refine Eq.trans ?_ (split_sum (fun x => HK m c (ix3 (bat t) (row t r) x)) (fun x => RW m c (ix2 x e))
    (fun x => MN_isR _ _ _ _ f4 f5 f6 _ _ _) (fun x => f7 _))
  simp only [h_pt, hi_blk, lo_blk]

include f4 f5 f6 f7 in
/-- The logits' array. -/
theorem final10 : (dats m 0 c).arrAt 10 (cfgs 0).N = LG (HK m c) (RW m c) := by
  refine (dats m 0 c).arrAt_eq_of_covers 10 _ (by decide +kernel) fun t _ y => ?_
  blk_simp
  rw [after0_10]
  have hy : y = (ix3 0 (y 1) (y 2) : S1x16x1024.Idx) := by
    funext a
    fin_cases a
    · exact Subsingleton.elim (α := Fin 1) _ _
    · rfl
    · rfl
  rw [hy]
  refine (l_pt m c t f4 f5 f6 f7 (y 1) (y 2)).trans ?_
  blk_point [idx t, bat, row]

end Cert.Kernel5Ideal.Op

end
-- ==== Proof.OpClaim.lean ====
/- The output projection's call: over a finite norm and router, kernel and reference compute the same three results over the extended reals. -/
module

public import proofs.«01_k».proof.Defs
public import proofs.«01_k».proof.Proof.Gen.Kernel5Ideal.Value
public import proofs.«01_k».proof.Proof.OpFinal
public import proofs.«01_k».proof.Proof.DaClaim

@[expose] public section

set_option maxRecDepth 16384

noncomputable section

namespace Cert.Kernel5Ideal.Op

open Idealize.ShloMosaic Idealize.SL.Sem
open Cert.DaMath
open Cert.KernelIdeal.Da (isR_of_abs and_one)

/-- The side conditions of the precondition's own program. -/
theorem finite5_facts : Cert.Pre_finite5.Facts where
  bcast_S_S1024 := by decide
  reducesTo_S1024_S_d0 := by decide
  h_S_ := by decide
  bcast_S_S16x1x1024 := by decide
  reducesTo_S16x1x1024_S_d0_1_2 := by decide
  bcast_S_S1024x16 := by decide
  reducesTo_S1024x16_S_d0_1 := by decide

instance : Cert.Pre_finite5.Facts := finite5_facts

/-- The precondition, read: the norm's weights, its modulation and the router's weights hold reals only. -/
theorem finite5_read (A0 : FVec Ideal Cert.Pre_finite5.S16x2048x1024 .bf16) (A1 : FVec Ideal Cert.Pre_finite5.S1x1024x1024 .f32)
    (A2 : FVec Ideal Cert.Pre_finite5.S16x2048x1024 .f32) (A3 : FVec Ideal Cert.Pre_finite5.S16x1x1024 .f32) (A4 : FVec Ideal Cert.Pre_finite5.S1024 .f32)
    (A5 A6 : FVec Ideal Cert.Pre_finite5.S16x1x1024 .f32) (A7 : FVec Ideal Cert.Pre_finite5.S1024x16 .f32)
    (h : Cert.Pre_finite5.fn (F := Ideal) A0 A1 A2 A3 A4 A5 A6 A7 = fun _ => 1#1) :
    (∀ i, IsR (A4 i)) ∧ (∀ i, IsR (A5 i)) ∧ (∀ i, IsR (A6 i)) ∧ (∀ i, IsR (A7 i)) := by
  have h := congrFun h ix0
  dsimp only [Cert.Pre_finite5.fn, Cert.Pre_finite5.fn_part1] at h
  obtain ⟨h, h3⟩ := and_one h
  obtain ⟨h, h2⟩ := and_one h
  obtain ⟨h, h1⟩ := and_one h
  obtain ⟨h, h0⟩ := and_one h
  haveI : Subsingleton Cert.Pre_finite5.S_.Idx := ⟨fun a b => funext fun i => i.elim0⟩
  exact ⟨fun i => isR_of_abs (Host.reduce_andi_all _ _ _ _ _ h0 i), fun i => isR_of_abs (Host.reduce_andi_all _ _ _ _ _ h1 i),
    fun i => isR_of_abs (Host.reduce_andi_all _ _ _ _ _ h2 i), fun i => isR_of_abs (Host.reduce_andi_all _ _ _ _ _ h3 i)⟩

/-- The kernel's frame, under the precondition. -/
theorem frame_finite5 : Cert.quiescent_Kernel5Ideal_pre_finite5 := fun m g _ => Cert.Kernel5Ideal.Gen.frame m g

/-- The reference's frame. -/
theorem frame_reference5 : Cert.quiescent_Reference5Ideal := by
  intro m g _
  exact (θ_run Cert.Reference5Ideal.defs _ _).mono (fun r h => ⟨fun c => (h c).2.2.2, sem_eq_zero_of_no_sems (by decide) r.2⟩)
    (Cert.Reference5Ideal.Value.run (F := Ideal) m g)

/-- The reference's frame, under the precondition. -/
theorem frame_reference_finite5 : Cert.quiescent_Reference5Ideal_pre_finite5 := fun m g _ => frame_reference5 m g trivial

set_option maxHeartbeats 1600000 in
/-- From memories that agree on the arguments, the kernel's three arrays end at the reference's. -/
theorem algebraic : Cert.algebraic_Kernel5Ideal_Reference5Ideal_pre_finite5 := by
  pair_intro
  · run_from Cert.Kernel5Ideal.Value.run_blocks m g
  · run_from Cert.Reference5Ideal.Value.run m' g'
    all_goals obtain ⟨f4, f5, f6, f7⟩ := finite5_read _ _ _ _ _ _ _ _ (hpre c)
    · exact (final8 m c).symm
    · exact (final9 m c).symm
    · exact (final10 m c f4 f5 f6 f7).symm

end Cert.Kernel5Ideal.Op

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.KernelIdeal.Value
public import proofs.«01_k».proof.Proof.Gen.ReferenceIdeal.Run
public import proofs.«01_k».proof.Proof.Gen.Reference2Ideal.Run
public import proofs.«01_k».proof.Proof.Gen.Reference3Ideal.Run
public import proofs.«01_k».proof.Proof.HostFrames
public import proofs.«01_k».proof.Proof.MoeFrameBits
public import proofs.«01_k».proof.Proof.MoeClaim
public import proofs.«01_k».proof.Proof.DaClaim
public import proofs.«01_k».proof.Proof.GmClaim
public import proofs.«01_k».proof.Proof.Gen.Kernel4
public import proofs.«01_k».proof.Proof.Gen.Kernel4.Frame
public import proofs.«01_k».proof.Proof.Gen.Kernel4Ideal.Value
public import proofs.«01_k».proof.Proof.Gen.Reference4Ideal.Run
public import proofs.«01_k».proof.Proof.LnClaim
public import proofs.«01_k».proof.Proof.Gen.Kernel5
public import proofs.«01_k».proof.Proof.Gen.Kernel5.Frame
public import proofs.«01_k».proof.Proof.Gen.Kernel5Ideal.Value
public import proofs.«01_k».proof.Proof.Gen.Reference5Ideal.Run
public import proofs.«01_k».proof.Proof.OpClaim
public import Idealize.ShloMosaic.Adequacy
public import Idealize.ShloMosaic.Init

@[expose] public section

noncomputable section

namespace Cert.Proof

open Idealize.ShloMosaic Idealize.SL.Sem Cert.Kernel

/-- Everything that is claimed, in the order in which `Cert.Claim` lists it. -/
theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts,
    Cert.KernelIdeal.Da.finite_facts, Cert.Kernel3Ideal.Gm.finite3_facts, Cert.Kernel5Ideal.Op.finite5_facts,
    fun m ρ _ => Cert.Kernel.Gen.frame m ρ, fun m ρ _ => Cert.KernelIdeal.Gen.frame m ρ, Cert.KernelIdeal.Da.frame_finite,
    frame_reference, Cert.KernelIdeal.Da.frame_reference_finite,
    fun m ρ _ => Cert.Kernel2.Moe.frame m ρ, fun m ρ _ => Cert.Kernel2Ideal.Moe.frame m ρ, frame_reference2,
    fun m ρ _ => Cert.Kernel3.Gen.frame m ρ, fun m ρ _ => Cert.Kernel3Ideal.Gen.frame m ρ,
    Cert.Kernel3Ideal.Gm.frame_finite3, frame_reference3, Cert.Kernel3Ideal.Gm.frame_reference_finite3,
    fun m ρ _ => Cert.Kernel4.Gen.frame m ρ, fun m ρ _ => Cert.Kernel4Ideal.Gen.frame m ρ, Cert.Kernel4Ideal.Ln.frame_reference4,
    fun m ρ _ => Cert.Kernel5.Gen.frame m ρ, fun m ρ _ => Cert.Kernel5Ideal.Gen.frame m ρ,
    Cert.Kernel5Ideal.Op.frame_finite5, Cert.Kernel5Ideal.Op.frame_reference5, Cert.Kernel5Ideal.Op.frame_reference_finite5,
    preserves_scale, Cert.KernelIdeal.Da.algebraic, trivial, Cert.Kernel2Ideal.Moe.algebraic, trivial,
    Cert.Kernel3Ideal.Gm.algebraic, trivial, Cert.Kernel4Ideal.Ln.algebraic, trivial, Cert.Kernel5Ideal.Op.algebraic⟩

end Cert.Proof

end
